-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S4x8192 : Shape := ⟨2, ![4, 8192]⟩
abbrev S8192x128 : Shape := ⟨2, ![8192, 128]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel

variable [Facts]

def fn {F : FTy → Type} [FloatOps F] (main_arg0 : IVec S4x8192 32) (main_arg1 : FVec F S8192x128 .f32) (main_arg2 : FVec F S8192x128 .f32) : IVec S_ 1 :=
  let main_c : IVec S_ 32 := constantI S_ 32 0#32
  let main_v0 : IVec S4x8192 32 := broadcastInDim S4x8192 ![] bcast_S_S4x8192 main_c
  let main_v1 : IVec S4x8192 1 := cmpi .sge main_arg0 main_v0
  let main_c_0 : IVec S_ 32 := constantI S_ 32 8192#32
  let main_v2 : IVec S4x8192 32 := broadcastInDim S4x8192 ![] bcast_S_S4x8192 main_c_0
  let main_v3 : IVec S4x8192 1 := cmpi .slt main_arg0 main_v2
  let main_v4 : IVec S4x8192 1 := andi main_v1 main_v3
  let main_c_1 : IVec S_ 1 := constantI S_ 1 1#1
  let main_v5 : IVec S_ 1 := (fun x v => Host.reduce IntOp.andi x v reducesTo_S4x8192_S_d0_1 h_S_) main_v4 main_c_1
  main_v5
-- ==== Kernel.lean ====
abbrev S4x8192 : Shape := ⟨2, ![4, 8192]⟩
abbrev S8192x128 : Shape := ⟨2, ![8192, 128]⟩
abbrev S32x8x128 : Shape := ⟨3, ![32, 8, 128]⟩
abbrev S32768x128 : Shape := ⟨2, ![32768, 128]⟩
abbrev S8x128 : Shape := ⟨2, ![8, 128]⟩
abbrev S128x128 : Shape := ⟨2, ![128, 128]⟩
abbrev S_ : Shape := ⟨0, ![]⟩
abbrev S1x8x128 : Shape := ⟨3, ![1, 8, 128]⟩
abbrev S1x128 : Shape := ⟨2, ![1, 128]⟩
abbrev S128 : Shape := ⟨1, ![128]⟩
abbrev S4x8192x128 : Shape := ⟨3, ![4, 8192, 128]⟩

abbrev nBuf : Table → Nat
  | .hbm => 8
  | .local .scVector .vmem => 7
  | _ => 0

abbrev bufTy : (tb : Table) → Fin (nBuf tb) → BufTy
  | .hbm, ⟨0, _⟩ => ⟨S4x8192, .i32⟩
  | .hbm, ⟨1, _⟩ => ⟨S8192x128, .f32⟩
  | .hbm, ⟨2, _⟩ => ⟨S8192x128, .f32⟩
  | .hbm, ⟨3, _⟩ => ⟨S32x8x128, .i32⟩
  | .hbm, ⟨4, _⟩ => ⟨S32768x128, .f32⟩
  | .hbm, ⟨5, _⟩ => ⟨S32768x128, .f32⟩
  | .hbm, ⟨6, _⟩ => ⟨S4x8192x128, .f32⟩
  | .hbm, ⟨7, _⟩ => ⟨S4x8192x128, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_186_r0 : BitVec 32 := 0#32
  let c0_i32_187_r0 : BitVec 32 := 0#32
  ![v1.toNat, 0, 0]
def k0_off2 (i : grid0.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v21 : BitVec 32 := Scalar.addi v2 c0_i32_22
  let c0_i32_23 : BitVec 32 := 0#32
  ![v21.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192 : Shape := ⟨2, ![4, 8192]⟩
abbrev S8192x128 : Shape := ⟨2, ![8192, 128]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x128 : Shape := ⟨3, ![4, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x128, .f32⟩
  | .hbm, ⟨2, _⟩ => ⟨S8192x128, .f32⟩
  | .hbm, ⟨3, _⟩ => ⟨S_, .i32⟩
  | .hbm, ⟨4, _⟩ => ⟨S4x8192, .i32⟩
  | .hbm, ⟨5, _⟩ => ⟨S4x8192, .i1⟩
  | .hbm, ⟨6, _⟩ => ⟨S_, .i32⟩
  | .hbm, ⟨7, _⟩ => ⟨S4x8192, .i32⟩
  | .hbm, ⟨8, _⟩ => ⟨S4x8192, .i32⟩
  | .hbm, ⟨9, _⟩ => ⟨S4x8192, .i32⟩
  | .hbm, ⟨10, _⟩ => ⟨S4x8192x1, .i32⟩
  | .hbm, ⟨11, _⟩ => ⟨S1, .i32⟩
  | .hbm, ⟨12, _⟩ => ⟨S_, .i32⟩
  | .hbm, ⟨13, _⟩ => ⟨S4x8192x1, .i32⟩
  | .hbm, ⟨14, _⟩ => ⟨S4x8192x1, .i1⟩
  | .hbm, ⟨15, _⟩ => ⟨S1x1x1, .i32⟩
  | .hbm, ⟨16, _⟩ => ⟨S4x8192x1, .i32⟩
  | .hbm, ⟨17, _⟩ => ⟨S4x8192x1, .i1⟩
  | .hbm, ⟨18, _⟩ => ⟨S4x8192x1, .i1⟩
  | .hbm, ⟨19, _⟩ => ⟨S_, .i1⟩
  | .hbm, ⟨20, _⟩ => ⟨S4x8192, .i1⟩
  | .hbm, ⟨21, _⟩ => ⟨S4x8192x128, .f32⟩
  | .hbm, ⟨22, _⟩ => ⟨S4x8192x128, .i1⟩
  | .hbm, ⟨23, _⟩ => ⟨S_, .f32⟩
  | .hbm, ⟨24, _⟩ => ⟨S4x8192x128, .f32⟩
  | .hbm, ⟨25, _⟩ => ⟨S4x8192x128, .f32⟩
  | .hbm, ⟨26, _⟩ => ⟨S_, .i32⟩
  | .hbm, ⟨27, _⟩ => ⟨S4x8192, .i32⟩
  | .hbm, ⟨28, _⟩ => ⟨S4x8192, .i1⟩
  | .hbm, ⟨29, _⟩ => ⟨S_, .i32⟩
  | .hbm, ⟨30, _⟩ => ⟨S4x8192, .i32⟩
  | .hbm, ⟨31, _⟩ => ⟨S4x8192, .i32⟩
  | .hbm, ⟨32, _⟩ => ⟨S4x8192, .i32⟩
  | .hbm, ⟨33, _⟩ => ⟨S4x8192x1, .i32⟩
  | .hbm, ⟨34, _⟩ => ⟨S1, .i32⟩
  | .hbm, ⟨35, _⟩ => ⟨S_, .i32⟩
  | .hbm, ⟨36, _⟩ => ⟨S4x8192x1, .i32⟩
  | .hbm, ⟨37, _⟩ => ⟨S4x8192x1, .i1⟩
  | .hbm, ⟨38, _⟩ => ⟨S1x1x1, .i32⟩
  | .hbm, ⟨39, _⟩ => ⟨S4x8192x1, .i32⟩
  | .hbm, ⟨40, _⟩ => ⟨S4x8192x1, .i1⟩
  | .hbm, ⟨41, _⟩ => ⟨S4x8192x1, .i1⟩
  | .hbm, ⟨42, _⟩ => ⟨S_, .i1⟩
  | .hbm, ⟨43, _⟩ => ⟨S4x8192, .i1⟩
  | .hbm, ⟨44, _⟩ => ⟨S4x8192x128, .f32⟩
  | .hbm, ⟨45, _⟩ => ⟨S4x8192x128, .i1⟩
  | .hbm, ⟨46, _⟩ => ⟨S_, .f32⟩
  | .hbm, ⟨47, _⟩ => ⟨S4x8192x128, .f32⟩
  | .hbm, ⟨48, _⟩ => ⟨S4x8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Streams.lean ====
/-
  TWO INDIRECT GATHERS IN FLIGHT ON ONE CELL. The tile starts the gather of a chunk's rows of one table and the gather
  of the same rows of the other table on the same DMA semaphore, and only then waits, twice, each time for one gather's
  amount. After the first wait nothing is known of either destination: the units it took may be of either gather. Only
  the second wait, which takes the last unit, says that every row of both has landed.

  Both gathers' rows, `o` and `o` again, all of the same amount `N`, are kept as ONE counted batch of `o + o` transfers
  (the library's batch of local transfers on a cell): row `j` of the first gather is transfer `j`, row `j` of the second
  is transfer `o + j`. The first wait takes `o * N` units and hands back nothing; the second drains the batch and hands
  back every row, which together are both destinations written with their payloads, both shares of the tables and both
  shares of the list.
-/
module

public import Idealize.ShloMosaic.Lib.Batch
public import Idealize.ShloMosaic.Lib.SparseCore.Stream

@[expose] public section

noncomputable section

namespace Cert.Proof.Streams

open Idealize.ShloMosaic Idealize.ShloMosaic.SparseCore
open Idealize.SL Idealize.SL.RA
open Idealize.SL.BI (sProp Storable bigSep)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {s₀ s si : Shape} {e : EltTy} {a : Nat} {α : Type} {Q : α → sProp (MT nD τ sig Ix (Elt F) Name U Lvl)}

local notation "𝕄" => MT nD τ sig Ix (Elt F) Name U Lvl

/-! ## One gather's rows -/

section Rows

variable {sp : Space} (src : Memref sig c.2.kind sp s₀ e) (dst : Memref sig c.2.kind .vmem s e) (hg : s₀.Gathers a s)
  (offs : Memref sig c.2.kind .vmem si .i32) (hn : si.numel = s.size hg.axis')
  (q qo : PosShare TreeShare) (fs : Buf (Elt F) (src.view.loc c)) (fd : Buf (Elt F) (dst.view.loc c)) (fo : Buf (Elt F) (offs.view.loc c))

/-- The list's entry read for row `j` of the destination. -/
abbrev entry (j : Fin (s.size hg.axis')) : si.Idx := si.rowMajor.symm (j.cast hn.symm)

/-- What the whole gather leaves in its destination, and gives back: the destination written with the gathered rows,
    the share of the table, the share of the list. -/
def gathered (hin : ∀ x, (offs.view.read (Elt F) fo x).toNat < s₀.size hg.axis) : sProp 𝕄 :=
  iprop((dst.view.loc c ↦[dst.view.set]{fullShare}
      (dst.view.write (Elt F) fd (gatherPayload hg (src.view.read (Elt F) fs) (SparseCore.rows (offs.view.read (Elt F) fo) hn hin)) Finset.univ))
    ∗ (src.view.loc c ↦[src.view.set]{q} fs) ∗ (offs.view.loc c ↦[offs.view.set]{qo} fo))

/-- What row `j` of the gather takes with it: its elements of the destination, its entry of the list, a piece of the
    share of the table. -/
def rowTakes (ho : 0 < s.size hg.axis') (j : Fin (s.size hg.axis')) : sProp 𝕄 :=
  iprop(((dst.view.loc c ↦[(dst.view.slice (s.rowRect hg.axis' j)).set]{fullShare} fd)
      ∗ (offs.view.loc c ↦[{offs.view.emb (entry hg hn j)}]{qo} fo))
    ∗ (src.view.loc c ↦[src.view.set]{pieceOf q _ ho j} fs))

/-- What row `j` of the gather brings back once it has landed: the same, its elements of the destination written with
    the row of the table that the list names for it. -/
def rowGives (hin : ∀ x, (offs.view.read (Elt F) fo x).toNat < s₀.size hg.axis) (ho : 0 < s.size hg.axis') (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (SparseCore.rows (offs.view.read (Elt F) fo) hn hin j) i)) Finset.univ))
      ∗ (offs.view.loc c ↦[{offs.view.emb (entry hg hn j)}]{qo} fo))
    ∗ (src.view.loc c ↦[src.view.set]{pieceOf q _ ho j} fs))

instance rowGives_storable (hin : ∀ x, (offs.view.read (Elt F) fo x).toNat < s₀.size hg.axis) (ho : 0 < s.size hg.axis')
    (j : Fin (s.size hg.axis')) : Storable (upEmb : UEmb _ 𝕄) (rowGives c src dst hg offs hn q qo fs fd fo hin ho j) := by
  unfold rowGives; infer_instance

theorem entry_bijective : Function.Bijective (entry hg hn) :=
  si.rowMajor.symm.bijective.comp (finCongr hn.symm).bijective

/-- What the gather is issued with is what its rows take. -/
theorem rowTakes_of (ho : 0 < s.size hg.axis') :
    iprop((src.view.loc c ↦[src.view.set]{q} fs) ∗ (dst.view.loc c ↦[dst.view.set]{fullShare} fd) ∗ (offs.view.loc c ↦[offs.view.set]{qo} fo))
      ⊢ (bigSep Finset.univ (rowTakes c src dst hg offs hn q qo fs fd fo ho) : sProp 𝕄) := by
  iintro ⟨Hs, Hd, Ho⟩
  ihave Hd' := (Entails.of_eq (pointsTo_rows c dst.view hg.axis' fullShare fd)) $$ Hd
  ihave Ho' := (Entails.of_eq (pointsTo_entries c offs.view (entry hg hn) (entry_bijective hg hn) qo fo)) $$ Ho
  ihave Hs' := (Entails.of_eq (pointsTo_piecesOf (src.view.set) fs ho q)) $$ Hs
  ihave H1 := Transfers.bigSep_sep_in _ _ _ $$ [Hd' Ho']; · isplitl [Hd'] <;> iassumption
  ihave H2 := Transfers.bigSep_sep_in _ _ _ $$ [H1 Hs']; · isplitl [H1] <;> iassumption
  iexact H2

/-- What its rows bring back is the whole gather's result. -/
theorem gathered_of (hin : ∀ x, (offs.view.read (Elt F) fo x).toNat < s₀.size hg.axis) (ho : 0 < s.size hg.axis') :
    (bigSep Finset.univ (rowGives c src dst hg offs hn q qo fs fd fo hin ho) : sProp 𝕄) ⊢ gathered c src dst hg offs hn q qo fs fd fo hin := by
  have hrows : (bigSep Finset.univ (fun j => (dst.view.loc c ↦[(dst.view.slice (s.rowRect hg.axis' j)).set]{fullShare}
        ((dst.view.slice (s.rowRect hg.axis' j)).write (Elt F) fd
          (fun i => src.view.read (Elt F) fs (hg.rowIdx (SparseCore.rows (offs.view.read (Elt F) fo) hn hin j) i)) Finset.univ) : sProp 𝕄)))
      ⊢ (dst.view.loc c ↦[dst.view.set]{fullShare}
        (dst.view.write (Elt F) fd (gatherPayload hg (src.view.read (Elt F) fs) (SparseCore.rows (offs.view.read (Elt F) fo) hn hin)) Finset.univ)) :=
    pointsTo_rows_write c dst.view hg.axis' fd _ _ (fun j i => by unfold gatherPayload; rw [Shape.Gathers.idx_rowRect_emb])
  unfold gathered rowGives
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply hrows $$ Hrows
  isplitl [Hsrc]; · iapply (Entails.of_eq (pointsTo_piecesOf (src.view.set) fs ho q).symm) $$ Hsrc
  iapply (Entails.of_eq (pointsTo_entries c offs.view (entry hg hn) (entry_bijective hg hn) qo fo).symm) $$ Hoffs

end Rows

/-! ## One gather issued as `o` transfers of a batch -/

/-- The issue of a gather whose rows are transfers `place j` of a batch already allocated on the cell: each row pays the
    batch with its own transfer's issue right, and the program goes on with the gather's credit. -/
theorem wp_gatherInBatch [EC.LandsIn (upEmb : UEmb _ 𝕄)] {sp : Space}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {n N : ℕ} (ham : ∀ j, (dst.slice (s.rowRect hg.axis' j) (s.stride_rowRect hg.axis' j)).view.dmaCredit = N)
    (ho : 0 < s.size hg.axis') (hin : ∀ x, (offs.view.read (Elt F) fo x).toNat < s₀.size hg.axis)
    {D : Fin n → sProp 𝕄} (place : Fin (s.size hg.axis') → Fin n)
    (hD : ∀ j, rowGives c src dst hg offs hn q qo fs fd fo hin ho j ⊢ D (place j)) {γ : Fin n → ℕ} {γ₀ : ℕ} {κ : Name} :
    iprop(inv κ (Transfers.batchBody EC (c, SemLoc.dma sem) N D γ γ₀)
        ∗ ((src.view.loc c ↦[src.view.set]{q} fs) ∗ (dst.view.loc c ↦[dst.view.set]{fullShare} fd) ∗ (offs.view.loc c ↦[offs.view.set]{qo} fo))
        ∗ bigSep Finset.univ (fun j => count EC (γ (place j)) 0))
      ⊢ iprop((cred (tallyAt (c, .dma sem) ι (s.size hg.axis' * N)) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := SparseCore.rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hN : ∑ j, (rd j).dst.view.dmaCredit = s.size hg.axis' * N := by
    rw [Finset.sum_congr rfl fun j _ => (ham j : (rd j).dst.view.dmaCredit = N), Finset.sum_const, Finset.card_univ, Fintype.card_fin, smul_eq_mul]
  iintro ⟨#Hinv, Hres, Hγ⟩ Hk
  ihave Hrows := (rowTakes_of c src dst hg offs hn q qo fs fd fo ho) $$ Hres
  iapply (wp_enqueueIndirectDma 𝒱 c bd Set.univ (qo := qo) (fo := fo) (rd := rd) ι _ hA hrd hN) $$ [Hrows Hγ]
  · have hrow : ∀ j, iprop(inv κ (Transfers.batchBody EC (c, SemLoc.dma sem) N D γ γ₀)
          ∗ (rowTakes c src dst hg offs hn q qo fs fd fo ho j ∗ count EC (γ (place j)) 0))
        ⊢ iprop(S.heldEntry qo fo j ∗ (S.heldEntry qo fo j -∗ rowRes c (rd j))) := fun j => by
      unfold rowTakes
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · iapply (show creditUpdate (c, SemLoc.dma sem) N 0 _ ⊢ creditUpdate (c, SemLoc.dma sem) ((rd j).dst.view.amount (.dma sem)) 0 _ from
          Entails.of_eq (by rw [View.amount_dma, show (rd j).dst.view.dmaCredit = N from ham j]))
        iapply (Transfers.batch_creditUpdate EC (place j) (hD j))
        isplitr; · iexact Hinv
        iexact Hγj
    unfold Stream.res
    ihave H3 := Transfers.bigSep_sep_in _ _ _ $$ [Hrows Hγ]; · isplitl [Hrows] <;> iassumption
    iapply (Transfers.bigSep_mono_pers Finset.univ _ _ _ fun j _ => hrow j)
    isplitr; · iexact Hinv
    iexact H3
  · iexact Hk

/-! ## Two gathers as one batch -/

section Split

variable {M : Type} [URA M]

/-- A family over `m + n` positions is the family over the first `m` and the family over the last `n`. -/
theorem bigSep_add {m n : ℕ} (Φ : Fin (m + n) → sProp M) :
    bigSep Finset.univ Φ = iprop(bigSep Finset.univ (fun j : Fin m => Φ (Fin.castAdd n j)) ∗ bigSep Finset.univ (fun j : Fin n => Φ (Fin.natAdd m j))) := by
  rw [BI.bigSep_univ_equiv finSumFinEquiv, BI.bigSep_univ_sum]
  rfl

end Split

section Pair

variable {sp : Space} (src₁ src₂ : Memref sig c.2.kind sp s₀ e) (dst₁ dst₂ : Memref sig c.2.kind .vmem s e) (hg : s₀.Gathers a s)
  (offs : Memref sig c.2.kind .vmem si .i32) (hn : si.numel = s.size hg.axis') (q₁ q₂ : PosShare TreeShare)
  (fs₁ : Buf (Elt F) (src₁.view.loc c)) (fs₂ : Buf (Elt F) (src₂.view.loc c))
  (fd₁ : Buf (Elt F) (dst₁.view.loc c)) (fd₂ : Buf (Elt F) (dst₂.view.loc c)) (fo : Buf (Elt F) (offs.view.loc c))

/-- The rows of the two gathers, in the order of their issue; each gather holds one half of the list. -/
def pairGives (hin : ∀ x, (offs.view.read (Elt F) fo x).toNat < s₀.size hg.axis) (ho : 0 < s.size hg.axis') :
    Fin (s.size hg.axis' + s.size hg.axis') → sProp 𝕄 :=
  Fin.addCases (rowGives c src₁ dst₁ hg offs hn q₁ fullShare.left fs₁ fd₁ fo hin ho) (rowGives c src₂ dst₂ hg offs hn q₂ fullShare.right fs₂ fd₂ fo hin ho)

instance pairGives_storable (hin : ∀ x, (offs.view.read (Elt F) fo x).toNat < s₀.size hg.axis) (ho : 0 < s.size hg.axis')
    (t : Fin (s.size hg.axis' + s.size hg.axis')) :
    Storable (upEmb : UEmb _ 𝕄) (pairGives c src₁ src₂ dst₁ dst₂ hg offs hn q₁ q₂ fs₁ fs₂ fd₁ fd₂ fo hin ho t) := by
  unfold pairGives
  refine Fin.addCases (fun j => ?_) (fun j => ?_) t
  · rw [Fin.addCases_left]; infer_instance
  · rw [Fin.addCases_right]; infer_instance

/-- The two gathers in flight: all `o + o` rows issued, no unit consumed. -/
def PairFlight (sem : DmaSem sig) (ι : Ix) (N : ℕ) (hin : ∀ x, (offs.view.read (Elt F) fo x).toNat < s₀.size hg.axis) (ho : 0 < s.size hg.axis') : sProp 𝕄 :=
  Transfers.Batch EC c (.dma sem) ι N (pairGives c src₁ src₂ dst₁ dst₂ hg offs hn q₁ q₂ fs₁ fs₂ fd₁ fd₂ fo hin ho) (s.size hg.axis' + s.size hg.axis') 0

/-- The issue of both gathers. Each takes its share of its table and one half of the list; the cell's counter is at
    zero. -/
theorem wp_gatherPair [Infinite Name] [EC.LandsIn (upEmb : UEmb _ 𝕄)] {sem : DmaSem sig}
    {hp₁ hp₂ : c.2.kind = .scVector} {hsrc₁ : src₁.view.WordExact} {hsrc₂ : src₂.view.WordExact} {he₁ he₂ : e.bits = 32}
    {hsp₁ hsp₂ : sp = .hbm ∨ sp = .shared} {hr₁ hr₂ : s₀.StreamRows a}
    {k : PUnit → Prog (TpuEff nD τ sig (Elt F) Λ c.2) α} (ι : Ix) {N : ℕ}
    (ham₁ : ∀ j, (dst₁.slice (s.rowRect hg.axis' j) (s.stride_rowRect hg.axis' j)).view.dmaCredit = N)
    (ham₂ : ∀ j, (dst₂.slice (s.rowRect hg.axis' j) (s.stride_rowRect hg.axis' j)).view.dmaCredit = N)
    (ho : 0 < s.size hg.axis') (hin : ∀ x, (offs.view.read (Elt F) fo x).toNat < s₀.size hg.axis) :
    iprop(((src₁.view.loc c ↦[src₁.view.set]{q₁} fs₁) ∗ (src₂.view.loc c ↦[src₂.view.set]{q₂} fs₂))
        ∗ ((dst₁.view.loc c ↦[dst₁.view.set]{fullShare} fd₁) ∗ (dst₂.view.loc c ↦[dst₂.view.set]{fullShare} fd₂))
        ∗ (offs.view.loc c ↦[offs.view.set]{fullShare} fo) ∗ semVal (c, .dma sem) 0)
      ⊢ iprop((PairFlight EC c src₁ src₂ dst₁ dst₂ hg offs hn q₁ q₂ fs₁ fs₂ fd₁ fd₂ fo sem ι N hin ho -∗ wp frame (wpE defs 𝒱 c bd) Set.univ (k ⟨⟩) Q)
          -∗ wp frame (wpE defs 𝒱 c bd) Set.univ (enqueueIndirectGather hp₁ src₁ dst₁ hg offs hn sem hsrc₁ he₁ hsp₁ hr₁
            >>= fun _ => enqueueIndirectGather hp₂ src₂ dst₂ hg offs hn sem hsrc₂ he₂ hsp₂ hr₂ >>= k) Q) := by
  iintro ⟨⟨Hs₁, Hs₂⟩, ⟨Hd₁, Hd₂⟩, Ho, Hv⟩ Hk
  ihave Ho' := (pointsTo_share (PosShare.mem_left_op_right fullShare)).1 $$ Ho
  icases Ho' with ⟨Ho₁, Ho₂⟩
  imod (Transfers.batch_alloc EC N (pairGives c src₁ src₂ dst₁ dst₂ hg offs hn q₁ q₂ fs₁ fs₂ fd₁ fd₂ fo hin ho) (g := (c, SemLoc.dma sem)) (E := Set.univ)) $$ Hv
    with ⟨%γ, %γ₀, %κ, #Hinv, H0, Hγ⟩
  ihave Hγ' := (Entails.of_eq (bigSep_add (fun t => (count EC (γ t) 0 : sProp 𝕄)))) $$ Hγ
  icases Hγ' with ⟨Hγ₁, Hγ₂⟩
  iapply (wp_gatherInBatch EC 𝒱 c bd ι ham₁ ho hin (q := q₁) (qo := fullShare.left) (fs := fs₁) (fd := fd₁)
    (D := pairGives c src₁ src₂ dst₁ dst₂ hg offs hn q₁ q₂ fs₁ fs₂ fd₁ fd₂ fo hin ho) (Fin.castAdd _) (fun j => by unfold pairGives; rw [Fin.addCases_left])) $$ [Hs₁ Hd₁ Ho₁ Hγ₁]
  · isplitr; · iexact Hinv
    isplitl [Hs₁ Hd₁ Ho₁]
    · isplitl [Hs₁]; · iexact Hs₁
      isplitl [Hd₁]; · iexact Hd₁
      iexact Ho₁
    iexact Hγ₁
  iintro Hc₁
  iapply (wp_gatherInBatch EC 𝒱 c bd ι ham₂ ho hin (q := q₂) (qo := fullShare.right) (fs := fs₂) (fd := fd₂)
    (D := pairGives c src₁ src₂ dst₁ dst₂ hg offs hn q₁ q₂ fs₁ fs₂ fd₁ fd₂ fo hin ho) (Fin.natAdd _) (fun j => by unfold pairGives; rw [Fin.addCases_right])) $$ [Hs₂ Hd₂ Ho₂ Hγ₂]
  · isplitr; · iexact Hinv
    isplitl [Hs₂ Hd₂ Ho₂]
    · isplitl [Hs₂]; · iexact Hs₂
      isplitl [Hd₂]; · iexact Hd₂
      iexact Ho₂
    iexact Hγ₂
  iintro Hc₂
  iapply Hk
  unfold PairFlight Transfers.Batch
  iexists γ, γ₀, κ
  isplitr; · iexact Hinv
  isplitr
  · rw [show Transfers.pending (n := s.size hg.axis' + s.size hg.axis') (s.size hg.axis' + s.size hg.axis') = ∅ by
      unfold Transfers.pending; exact Finset.filter_false_of_mem fun t _ => by omega]
    rw [BI.bigSep_empty]; iempintro
  isplitl [H0]; · iexact H0
  rw [Nat.sub_zero, Nat.add_mul, ← tallyAt_add]
  isplitl [Hc₁] <;> iassumption

/-- The two waits for both gathers, each for one gather's amount: both destinations written, both shares of the tables
    and the list whole, and the cell's counter back at zero. -/
theorem wp_waitPair [EC.LandsIn (upEmb : UEmb _ 𝕄)] {sem : DmaSem sig} {spw₁ spw₂ : Space} {sw₁ sw₂ : Shape} {ew₁ ew₂ : EltTy}
    {srcw₁ : Memref sig c.2.kind spw₁ sw₁ ew₁} {srcw₂ : Memref sig c.2.kind spw₂ sw₂ ew₂}
    {hws₁ : srcw₁.view.WordExact} {hws₂ : srcw₂.view.WordExact} {hwd₁ : dst₁.view.WordExact} {hwd₂ : dst₂.view.WordExact}
    {k : PUnit → Prog (TpuEff nD τ sig (Elt F) Λ c.2) α} (ι : Ix) {N : ℕ} (hN0 : 0 < N)
    (hc₁ : dst₁.view.dmaCredit = s.size hg.axis' * N) (hc₂ : dst₂.view.dmaCredit = s.size hg.axis' * N)
    (ho : 0 < s.size hg.axis') (hin : ∀ x, (offs.view.read (Elt F) fo x).toNat < s₀.size hg.axis)
    {O : CellTallies nD τ sig Ix} {W : Waits sig Ix} :
    iprop(PairFlight EC c src₁ src₂ dst₁ dst₂ hg offs hn q₁ q₂ fs₁ fs₂ fd₁ fd₂ fo sem ι N hin ho ∗ owes c O W ∗ Transfers.MayWaits c ι O)
      ⊢ iprop((iprop((((dst₁.view.loc c ↦[dst₁.view.set]{fullShare}
                  (dst₁.view.write (Elt F) fd₁ (gatherPayload hg (src₁.view.read (Elt F) fs₁) (SparseCore.rows (offs.view.read (Elt F) fo) hn hin)) Finset.univ))
                ∗ (dst₂.view.loc c ↦[dst₂.view.set]{fullShare}
                  (dst₂.view.write (Elt F) fd₂ (gatherPayload hg (src₂.view.read (Elt F) fs₂) (SparseCore.rows (offs.view.read (Elt F) fo) hn hin)) Finset.univ)))
              ∗ ((src₁.view.loc c ↦[src₁.view.set]{q₁} fs₁) ∗ (src₂.view.loc c ↦[src₂.view.set]{q₂} fs₂))
              ∗ (offs.view.loc c ↦[offs.view.set]{fullShare} fo) ∗ semVal (c, .dma sem) 0)
            ∗ owes c O (insert (SemLoc.dma sem, ι) (insert (SemLoc.dma sem, ι) W))) -∗ wp frame (wpE defs 𝒱 c bd) Set.univ (k ⟨⟩) Q)
          -∗ wp frame (wpE defs 𝒱 c bd) Set.univ (waitIndirectGather sem srcw₁ dst₁ hws₁ hwd₁
            >>= fun _ => waitIndirectGather sem srcw₂ dst₂ hws₂ hwd₂ >>= k) Q) := by
  rw [waitIndirectGather_bind]
  unfold PairFlight
  iintro ⟨HB, HO, #Hmw⟩ Hk
  iapply (Transfers.wp_waitBatchMulO EC 𝒱 c bd ι (s.size hg.axis') hc₁
    (D := pairGives c src₁ src₂ dst₁ dst₂ hg offs hn q₁ q₂ fs₁ fs₂ fd₁ fd₂ fo hin ho) (j := s.size hg.axis' + s.size hg.axis') (u := 0)
    (by rw [Nat.zero_add, Nat.mul_comm]; exact Nat.mul_le_mul_left _ (Nat.le_add_left _ _))) $$ [HB HO]
  · isplitl [HB]; · iexact HB
    isplitl [HO]; · iexact HO
    iapply (Transfers.MayWaits.elim (SemLoc.dma sem)) $$ Hmw
  iintro ⟨HB, HO⟩
  rw [waitIndirectGather_bind]
  iapply (Transfers.wp_waitBatchAllO EC 𝒱 c bd ι hc₂ hN0
    (D := pairGives c src₁ src₂ dst₁ dst₂ hg offs hn q₁ q₂ fs₁ fs₂ fd₁ fd₂ fo hin ho) (u := 0 + s.size hg.axis' * N)
    (by rw [Nat.zero_add, ← Nat.add_mul, Nat.mul_comm])) $$ [HB HO]
  · isplitl [HB]; · iexact HB
    isplitl [HO]; · iexact HO
    iapply (Transfers.MayWaits.elim (SemLoc.dma sem)) $$ Hmw
  iintro ⟨HD, Hv, HO⟩
  iapply Hk
  isplitr [HO]
  · have hjoin : (bigSep Finset.univ (pairGives c src₁ src₂ dst₁ dst₂ hg offs hn q₁ q₂ fs₁ fs₂ fd₁ fd₂ fo hin ho) : sProp 𝕄)
        ⊢ iprop(gathered c src₁ dst₁ hg offs hn q₁ fullShare.left fs₁ fd₁ fo hin ∗ gathered c src₂ dst₂ hg offs hn q₂ fullShare.right fs₂ fd₂ fo hin) := by
      rw [bigSep_add]
      simp only [pairGives, Fin.addCases_left, Fin.addCases_right]
      exact BI.sep_mono (gathered_of c src₁ dst₁ hg offs hn q₁ _ fs₁ fd₁ fo hin ho) (gathered_of c src₂ dst₂ hg offs hn q₂ _ fs₂ fd₂ fo hin ho)
    ihave HG := hjoin $$ HD
    unfold gathered
    icases HG with ⟨⟨Hd₁, Hs₁, Ho₁⟩, Hd₂, Hs₂, Ho₂⟩
    isplitl [Hd₁ Hd₂]; · isplitl [Hd₁] <;> iassumption
    isplitl [Hs₁ Hs₂]; · isplitl [Hs₁] <;> iassumption
    isplitr [Hv]
    · iapply (pointsTo_share (PosShare.mem_left_op_right fullShare)).2 $$ [Ho₁ Ho₂]
      isplitl [Ho₁] <;> iassumption
    iexact Hv
  · iexact HO

end Pair

/-! ## Two copies as one batch -/

section Copies

variable {sp₁ sp₂ : Space} (src₁ src₂ : Memref sig c.2.kind sp₁ s e) (dst₁ dst₂ : Memref sig c.2.kind sp₂ s e)
  (fs₁ : Buf (Elt F) (src₁.view.loc c)) (fs₂ : Buf (Elt F) (src₂.view.loc c))
  (fd₁ : Buf (Elt F) (dst₁.view.loc c)) (fd₂ : Buf (Elt F) (dst₂.view.loc c))

theorem lift_bind {β : Type} (x : TpuEff nD τ sig (Elt F) Λ c.2 β) (k : β → Prog (TpuEff nD τ sig (Elt F) Λ c.2) α) :
    (Prog.lift x : Prog (TpuEff nD τ sig (Elt F) Λ c.2) β) >>= k = .op x k := rfl

/-- What one copy brings back once it has landed: its destination written with its source's elements, and its source. -/
def copied (src : Memref sig c.2.kind sp₁ s e) (dst : Memref sig c.2.kind sp₂ s e) (fs : Buf (Elt F) (src.view.loc c))
    (fd : Buf (Elt F) (dst.view.loc c)) : sProp 𝕄 :=
  iprop((dst.view.loc c ↦[dst.view.set]{fullShare} (dst.view.write (Elt F) fd (src.view.read (Elt F) fs) Finset.univ))
    ∗ (src.view.loc c ↦[src.view.set]{fullShare} fs))

/-- The two copies' deliveries, in the order of their issue. -/
def copyGives : Fin 2 → sProp 𝕄 := ![copied c src₁ dst₁ fs₁ fd₁, copied c src₂ dst₂ fs₂ fd₂]

instance copied_storable (src : Memref sig c.2.kind sp₁ s e) (dst : Memref sig c.2.kind sp₂ s e) (fs : Buf (Elt F) (src.view.loc c))
    (fd : Buf (Elt F) (dst.view.loc c)) : Storable (upEmb : UEmb _ 𝕄) (copied c src dst fs fd) := by
  unfold copied; infer_instance

instance copyGives_storable (t : Fin 2) : Storable (upEmb : UEmb _ 𝕄) (copyGives c src₁ src₂ dst₁ dst₂ fs₁ fs₂ fd₁ fd₂ t) :=
  match t with
  | 0 => copied_storable c src₁ dst₁ fs₁ fd₁
  | 1 => copied_storable c src₂ dst₂ fs₂ fd₂

/-- The two copies in flight: both issued, no unit consumed. -/
def CopyFlight (sem : DmaSem sig) (ι : Ix) (N : ℕ) : sProp 𝕄 :=
  Transfers.Batch EC c (.dma sem) ι N (copyGives c src₁ src₂ dst₁ dst₂ fs₁ fs₂ fd₁ fd₂) 2 0

/-- The issue of both copies, the cell's counter at zero. -/
theorem wp_copyPair [Infinite Name] [EC.LandsIn (upEmb : UEmb _ 𝕄)] {sem : DmaSem sig}
    {hs₁ : src₁.view.WordExact} {hd₁ : dst₁.view.WordExact} {ht₁ : DmaTarget.Typed (nD := nD) sp₁ (.dma sem) (.here dst₁)}
    {hs₂ : src₂.view.WordExact} {hd₂ : dst₂.view.WordExact} {ht₂ : DmaTarget.Typed (nD := nD) sp₁ (.dma sem) (.here dst₂)}
    {k : PUnit → Prog (TpuEff nD τ sig (Elt F) Λ c.2) α} (ι : Ix) {N : ℕ} (hN₁ : dst₁.view.dmaCredit = N) (hN₂ : dst₂.view.dmaCredit = N) :
    iprop(((src₁.view.loc c ↦[src₁.view.set]{fullShare} fs₁) ∗ (src₂.view.loc c ↦[src₂.view.set]{fullShare} fs₂))
        ∗ ((dst₁.view.loc c ↦[dst₁.view.set]{fullShare} fd₁) ∗ (dst₂.view.loc c ↦[dst₂.view.set]{fullShare} fd₂)) ∗ semVal (c, .dma sem) 0)
      ⊢ iprop((CopyFlight EC c src₁ src₂ dst₁ dst₂ fs₁ fs₂ fd₁ fd₂ sem ι N -∗ wp frame (wpE defs 𝒱 c bd) Set.univ (k ⟨⟩) Q)
          -∗ wp frame (wpE defs 𝒱 c bd) Set.univ ((Prog.lift (TpuEff.enqueueDma src₁ (.here dst₁) (.dma sem) hs₁ hd₁ ht₁) : Prog (TpuEff nD τ sig (Elt F) Λ c.2) PUnit)
            >>= fun _ => (Prog.lift (TpuEff.enqueueDma src₂ (.here dst₂) (.dma sem) hs₂ hd₂ ht₂) : Prog (TpuEff nD τ sig (Elt F) Λ c.2) PUnit) >>= k) Q) := by
  rw [lift_bind]
  iintro ⟨⟨Hs₁, Hs₂⟩, ⟨Hd₁, Hd₂⟩, Hv⟩ Hk
  imod (Transfers.batch_alloc' EC c ι N (copyGives c src₁ src₂ dst₁ dst₂ fs₁ fs₂ fd₁ fd₂) (E := Set.univ)) $$ Hv with HB
  iapply (Transfers.wp_dmaBatch EC 𝒱 c bd ι N (D := copyGives c src₁ src₂ dst₁ dst₂ fs₁ fs₂ fd₁ fd₂) (fs := fs₁) (fd := fd₁) (q := fullShare) (j := 0) (u := 0)
    ((View.amount_dma _ _).trans hN₁) (subset_refl _) (by omega) (by omega) (Entails.of_eq rfl)) $$ [Hs₁ Hd₁ HB]
  · isplitl [Hs₁]; · iexact Hs₁
    isplitl [Hd₁]; · iexact Hd₁
    iexact HB
  iintro HB
  rw [lift_bind]
  iapply (Transfers.wp_dmaBatch EC 𝒱 c bd ι N (D := copyGives c src₁ src₂ dst₁ dst₂ fs₁ fs₂ fd₁ fd₂) (fs := fs₂) (fd := fd₂) (q := fullShare) (j := 1) (u := 0)
    ((View.amount_dma _ _).trans hN₂) (subset_refl _) (by omega) (by omega) (Entails.of_eq rfl)) $$ [Hs₂ Hd₂ HB]
  · isplitl [Hs₂]; · iexact Hs₂
    isplitl [Hd₂]; · iexact Hd₂
    iexact HB
  iintro HB
  iapply Hk
  unfold CopyFlight
  iexact HB

/-- The two waits for both copies: both destinations written, both sources back, the cell's counter at zero. -/
theorem wp_waitCopyPair [EC.LandsIn (upEmb : UEmb _ 𝕄)] {sem : DmaSem sig} {spw₁ spw₂ : Space} {sw₁ sw₂ : Shape} {ew₁ ew₂ : EltTy}
    {srcw₁ : Memref sig c.2.kind spw₁ sw₁ ew₁} {srcw₂ : Memref sig c.2.kind spw₂ sw₂ ew₂}
    {hws₁ : srcw₁.view.WordExact} {hws₂ : srcw₂.view.WordExact} {hwd₁ : dst₁.view.WordExact} {hwd₂ : dst₂.view.WordExact}
    {k : PUnit → Prog (TpuEff nD τ sig (Elt F) Λ c.2) α} (ι : Ix) {N : ℕ} (hN0 : 0 < N) (hN₁ : dst₁.view.dmaCredit = N) (hN₂ : dst₂.view.dmaCredit = N)
    {O : CellTallies nD τ sig Ix} {W : Waits sig Ix} :
    iprop(CopyFlight EC c src₁ src₂ dst₁ dst₂ fs₁ fs₂ fd₁ fd₂ sem ι N ∗ owes c O W ∗ Transfers.MayWaits c ι O)
      ⊢ iprop((iprop((((src₁.view.loc c ↦[src₁.view.set]{fullShare} fs₁) ∗ (src₂.view.loc c ↦[src₂.view.set]{fullShare} fs₂))
              ∗ ((dst₁.view.loc c ↦[dst₁.view.set]{fullShare} (dst₁.view.write (Elt F) fd₁ (src₁.view.read (Elt F) fs₁) Finset.univ))
                ∗ (dst₂.view.loc c ↦[dst₂.view.set]{fullShare} (dst₂.view.write (Elt F) fd₂ (src₂.view.read (Elt F) fs₂) Finset.univ)))
              ∗ semVal (c, .dma sem) 0)
            ∗ owes c O (insert (SemLoc.dma sem, ι) (insert (SemLoc.dma sem, ι) W))) -∗ wp frame (wpE defs 𝒱 c bd) Set.univ (k ⟨⟩) Q)
          -∗ wp frame (wpE defs 𝒱 c bd) Set.univ ((Prog.lift (TpuEff.waitDma2 sem srcw₁ dst₁ hws₁ hwd₁) : Prog (TpuEff nD τ sig (Elt F) Λ c.2) PUnit)
            >>= fun _ => (Prog.lift (TpuEff.waitDma2 sem srcw₂ dst₂ hws₂ hwd₂) : Prog (TpuEff nD τ sig (Elt F) Λ c.2) PUnit) >>= k) Q) := by
  unfold CopyFlight
  rw [lift_bind]
  iintro ⟨HB, HO, #Hmw⟩ Hk
  iapply (Transfers.wp_waitBatchO EC 𝒱 c bd ι hN₁ (D := copyGives c src₁ src₂ dst₁ dst₂ fs₁ fs₂ fd₁ fd₂) (u := 0) (by omega)) $$ [HB HO]
  · isplitl [HB]; · iexact HB
    isplitl [HO]; · iexact HO
    iapply (Transfers.MayWaits.elim (SemLoc.dma sem)) $$ Hmw
  iintro ⟨HB, HO⟩
  rw [lift_bind]
  iapply (Transfers.wp_waitBatchLastO EC 𝒱 c bd ι hN₂ hN0 (D := copyGives c src₁ src₂ dst₁ dst₂ fs₁ fs₂ fd₁ fd₂) (u := 0 + N) (by omega)) $$ [HB HO]
  · isplitl [HB]; · iexact HB
    isplitl [HO]; · iexact HO
    iapply (Transfers.MayWaits.elim (SemLoc.dma sem)) $$ Hmw
  iintro ⟨HD, Hv, HO⟩
  iapply Hk
  isplitr [HO]
  · ihave HD' := (Entails.of_eq (BI.bigSep_fin_two (copyGives c src₁ src₂ dst₁ dst₂ fs₁ fs₂ fd₁ fd₂))) $$ HD
    ihave HD2 := (show iprop(copyGives c src₁ src₂ dst₁ dst₂ fs₁ fs₂ fd₁ fd₂ 0 ∗ copyGives c src₁ src₂ dst₁ dst₂ fs₁ fs₂ fd₁ fd₂ 1)
      ⊢ iprop(((dst₁.view.loc c ↦[dst₁.view.set]{fullShare} (dst₁.view.write (Elt F) fd₁ (src₁.view.read (Elt F) fs₁) Finset.univ))
          ∗ (src₁.view.loc c ↦[src₁.view.set]{fullShare} fs₁))
        ∗ ((dst₂.view.loc c ↦[dst₂.view.set]{fullShare} (dst₂.view.write (Elt F) fd₂ (src₂.view.read (Elt F) fs₂) Finset.univ))
          ∗ (src₂.view.loc c ↦[src₂.view.set]{fullShare} fs₂))) from Entails.of_eq rfl) $$ HD'
    icases HD2 with ⟨⟨Hd₁, Hs₁⟩, Hd₂, Hs₂⟩
    isplitl [Hs₁ Hs₂]; · isplitl [Hs₁] <;> iassumption
    isplitl [Hd₁ Hd₂]; · isplitl [Hd₁] <;> iassumption
    iexact Hv
  · iexact HO

end Copies

end Cert.Proof.Streams

end
-- ==== Proof.Body.lean ====
/-
  THE KERNEL'S BODY, STATED AS ITS TURNS. The printed body is a straight line of some hundred memory operations, the
  unrolling of one loop over eight chunks of 128 positions on a ring of three slots. Here it is written back as what it
  unrolls: a slot is two row buffers and two semaphores; for a chunk and a slot there are four actions — start the two
  gathers, wait for them, start the two copies out, wait for them — and the body is those actions in their order. That
  the printed body is this program is by definition.
-/
module

public import proofs.«01_k».proof.Defs
public import proofs.«01_k».proof.Proof.Streams
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit

@[expose] public section

noncomputable section

namespace Cert.Proof.Body

open Cert.KernelIdeal Cert.KernelIdeal.Gen
open Idealize.ShloMosaic Idealize.SL.Sem

variable {F : FTy → Type}

/-! ## The arrays and the slots -/

abbrev posM : Memref sig .scVector .hbm S32x8x128 .i32 := Memref.whole main_v0_scv
abbrev cosM : Memref sig .scVector .hbm S8192x128 .f32 := Memref.whole main_arg1_scv
abbrev sinM : Memref sig .scVector .hbm S8192x128 .f32 := Memref.whole main_arg2_scv
abbrev cosOut : Memref sig .scVector .hbm S32768x128 .f32 := Memref.whole main_v1_0_scv
abbrev sinOut : Memref sig .scVector .hbm S32768x128 .f32 := Memref.whole main_v1_1_scv
abbrev listM : Memref sig .scVector .vmem S8x128 .i32 := Memref.whole cc0_scratch0

/-- A slot of the ring: a buffer of 128 rows for each table, the semaphore of its gathers, the semaphore of its
    copies out. -/
structure Slot where
  cos : Memref sig .scVector .vmem S128x128 .f32
  sin : Memref sig .scVector .vmem S128x128 .f32
  hcos : cos.IsWhole
  hsin : sin.IsWhole
  gat : DmaSem sig
  out : DmaSem sig

abbrev slot0 : Slot := ⟨Memref.whole cc0_scratch1, Memref.whole cc0_scratch4, Memref.isWhole_whole _, Memref.isWhole_whole _, cc0_scratch7.sem, cc0_scratch10.sem⟩
abbrev slot1 : Slot := ⟨Memref.whole cc0_scratch2, Memref.whole cc0_scratch5, Memref.isWhole_whole _, Memref.isWhole_whole _, cc0_scratch8.sem, cc0_scratch11.sem⟩
abbrev slot2 : Slot := ⟨Memref.whole cc0_scratch3, Memref.whole cc0_scratch6, Memref.isWhole_whole _, Memref.isWhole_whole _, cc0_scratch9.sem, cc0_scratch12.sem⟩

/-- Both tables, whole, as the gathers name them. -/
abbrev cosTab : Memref sig .scVector .hbm S8192x128 .f32 :=
  cosM.slice (Rect.unit (s := S8192x128) ![0, 0] S8192x128.size inb_S8192x128_S8192x128_0_0) (fun _ => rfl)
abbrev sinTab : Memref sig .scVector .hbm S8192x128 .f32 :=
  sinM.slice (Rect.unit (s := S8192x128) ![0, 0] S8192x128.size inb_S8192x128_S8192x128_0_0) (fun _ => rfl)

/-- Row `k` of the list lies in it. -/
theorem row_inb (k : Fin 8) : ∀ a, (![k.val, 0] : Fin 2 → ℕ) a + S1x128.size a ≤ S8x128.size a := by
  revert k; decide

/-- Row `k` of the list: chunk `k`'s 128 positions. -/
abbrev rowM (k : Fin 8) : Memref sig .scVector .vmem S128 .i32 :=
  (listM.slice (Rect.unit (s := S8x128) ![k.val, 0] S1x128.size (row_inb k)) (fun _ => rfl)).squeeze S128 squeezes_S1x128_S128

section Turns

variable (i : grid0.Coords)

/-- The tile's part of the positions, and chunk `k`'s 128 rows of each result. -/
abbrev posRow : Memref sig .scVector .hbm S8x128 .i32 :=
  (posM.slice (Rect.unit (s := S32x8x128) (k0_off1 i) S1x8x128.size (k0_off1_inb i)) (fun _ => rfl)).squeeze S8x128 squeezes_S1x8x128_S8x128
abbrev cosRows (k : Fin 8) : Memref sig .scVector .hbm S128x128 .f32 :=
  cosOut.slice (Rect.unit (s := S32768x128) (k0_off2 i (BitVec.ofNat 32 (128 * k.val))) S128x128.size (k0_off2_inb i k)) (fun _ => rfl)
abbrev sinRows (k : Fin 8) : Memref sig .scVector .hbm S128x128 .f32 :=
  sinOut.slice (Rect.unit (s := S32768x128) (k0_off2 i (BitVec.ofNat 32 (128 * k.val))) S128x128.size (k0_off2_inb i k)) (fun _ => rfl)

/-- The programs of this tile. -/
abbrev TileProg : Type 1 := Prog (TpuEff nD τ sig (Elt F) Λ₀ (.scVector ((i 0).castLE hcore0) ((i 1).castLE hsub0))) PUnit

/-- Start chunk `k`'s two gathers into slot `b`. -/
abbrev startGathers (b : Slot) (k : Fin 8) : TileProg (F := F) i := do
  SparseCore.enqueueIndirectGather rfl cosTab b.cos gathers_S8192x128_S128x128 (rowM k) rfl b.gat (View.wordExact_bits rfl) rfl (Or.inl rfl)
  SparseCore.enqueueIndirectGather rfl sinTab b.sin gathers_S8192x128_S128x128 (rowM k) rfl b.gat (View.wordExact_bits rfl) rfl (Or.inl rfl)

/-- Wait for slot `b`'s two gathers. -/
abbrev waitGathers (b : Slot) : TileProg (F := F) i := do
  SparseCore.waitIndirectGather b.gat cosTab b.cos (View.wordExact_bits rfl) b.hcos.wordExact
  SparseCore.waitIndirectGather b.gat sinTab b.sin (View.wordExact_bits rfl) b.hsin.wordExact

/-- Start the two copies of slot `b` to chunk `k`'s rows of the results. -/
abbrev startCopies (b : Slot) (k : Fin 8) : TileProg (F := F) i := do
  Prog.lift (.enqueueDma b.cos (.here (cosRows i k)) (.dma b.out) b.hcos.wordExact (View.wordExact_bits rfl) ⟨Or.inl rfl, trivial⟩)
  Prog.lift (.enqueueDma b.sin (.here (sinRows i k)) (.dma b.out) b.hsin.wordExact (View.wordExact_bits rfl) ⟨Or.inl rfl, trivial⟩)

/-- Wait for them: the waits name the copies' own windows. -/
abbrev waitCopies (b : Slot) (k : Fin 8) : TileProg (F := F) i := do
  Prog.lift (.waitDma2 b.out b.cos (cosRows i k) b.hcos.wordExact (View.wordExact_bits rfl))
  Prog.lift (.waitDma2 b.out b.sin (sinRows i k) b.hsin.wordExact (View.wordExact_bits rfl))

/-- Fetch the tile's positions into the list. -/
abbrev fetch : TileProg (F := F) i := do
  Prog.lift (.enqueueDma (posRow i) (.here listM) (.dma cc0_scoped0.sem) ((View.wordExact_bits rfl).reshape _ _) (Memref.isWhole_whole _).wordExact ⟨Or.inl rfl, trivial⟩)
  Prog.lift (.waitDma2 cc0_scoped0.sem (posRow i) listM ((View.wordExact_bits rfl).reshape _ _) (Memref.isWhole_whole _).wordExact)

/-- A turn of the ring: start chunk `k'` in slot `b'`, then pass chunk `k`, in slot `b`, from its gathers to its
    copies out. -/
abbrev turn (b : Slot) (k : Fin 8) (b' : Slot) (k' : Fin 8) : TileProg (F := F) i := do
  startGathers i b' k'
  waitGathers i b
  startCopies i b k

/-- The body. -/
def body : TileProg (F := F) i := do
  fetch i
  startGathers i slot0 0
  turn i slot0 0 slot1 1
  turn i slot1 1 slot2 2
  waitCopies i slot0 0
  turn i slot2 2 slot0 3
  waitCopies i slot1 1
  turn i slot0 3 slot1 4
  waitCopies i slot2 2
  turn i slot1 4 slot2 5
  waitCopies i slot0 3
  turn i slot2 5 slot0 6
  waitCopies i slot1 4
  turn i slot0 6 slot1 7
  waitGathers i slot1
  startCopies i slot1 7
  waitCopies i slot2 5
  waitCopies i slot0 6
  waitCopies i slot1 7
  pure ⟨⟩

set_option maxRecDepth 65536 in
/-- The printed body is it. -/
theorem body_eq : cc0__rope_gather (F := F) i posM (Memref.isWhole_whole _) cosM (Memref.isWhole_whole _) sinM (Memref.isWhole_whole _)
    cosOut (Memref.isWhole_whole _) sinOut (Memref.isWhole_whole _) listM (Memref.isWhole_whole _)
    slot0.cos slot0.hcos slot1.cos slot1.hcos slot2.cos slot2.hcos slot0.sin slot0.hsin slot1.sin slot1.hsin slot2.sin slot2.hsin
    cc0_scratch7 cc0_scratch8 cc0_scratch9 cc0_scratch10 cc0_scratch11 cc0_scratch12 cc0_scoped0 = body (F := F) i := rfl

end Turns

end Cert.Proof.Body
end
-- ==== Proof.Values.lean ====
/-
  WHAT THE LOOKUP LEAVES, and where each window lies. A result's row `p` is the table's row at the `p`-th position; the
  positions, as the kernel reads them, are 32 parts of 8 chunks of 128, so row `p` belongs to part `p / 1024`, chunk
  `p / 128 % 8`, place `p % 128`. Here the windows the body names are placed in their arrays, and a chunk's gathered
  rows are shown to be the result's rows of that chunk's window.
-/
module

public import proofs.«01_k».proof.Proof.Body
public import Idealize.ShloMosaic.Lib.Pointwise.Reshape

@[expose] public section

noncomputable section

namespace Cert.Proof.Values

open Cert.KernelIdeal Cert.KernelIdeal.Gen Cert.Proof.Body
open Idealize.ShloMosaic Idealize.SL.Sem

variable {F : FTy → Type}

/-! ## The result -/

/-- Where the position of result row `p` stands among the positions in parts, chunks and places. -/
def place (p : Fin 32768) : S32x8x128.Idx
  | ⟨0, _⟩ => (⟨p.val / 1024, by omega⟩ : Fin 32)
  | ⟨1, _⟩ => (⟨p.val / 128 % 8, by omega⟩ : Fin 8)
  | ⟨2, _⟩ => (⟨p.val % 128, by omega⟩ : Fin 128)

/-- Entry `l` of the table's row that the word `w` names. -/
def entryAt (w : BitVec 32) (l : Fin 128) : S8192x128.Idx
  | ⟨0, _⟩ => (⟨w.toNat % 8192, by omega⟩ : Fin 8192)
  | ⟨1, _⟩ => l

/-- The lookup: row `p` of the result is the table's row that the `p`-th position names. -/
def looked (T : S8192x128.Idx → Elt F .f32) (P : S32x8x128.Idx → BitVec 32) : S32768x128.Idx → Elt F .f32 :=
  fun x => T (entryAt (P (place (x 0))) (x 1))

/-! ## The windows -/

section Windows

variable (i : grid0.Coords)

/-- The tile's number among the 32. -/
def wid : Fin 32 := ⟨2 * (i 1).val + (i 0).val, by
  have h0 : (i 0).val < 2 := (i 0).isLt
  have h1 : (i 1).val < 16 := (i 1).isLt
  omega⟩

theorem one_row (x : S8x128.Idx) : ∃ y : S1x8x128.Idx, Shape.reshapeEquiv squeezes_S1x8x128_S8x128.numel_eq x = y
    ∧ (y 0).val = 0 ∧ (y 1).val = (x 0).val ∧ (y 2).val = (x 1).val := by
  let y : S1x8x128.Idx := fun a => match a with
    | ⟨0, _⟩ => (⟨0, by decide⟩ : Fin 1)
    | ⟨1, _⟩ => x 0
    | ⟨2, _⟩ => x 1
  refine ⟨y, ?_, rfl, rfl, rfl⟩
  refine Shape.reshapeEquiv_eq_of_vals _ x y _ _ (rowMajor_val3 y 1024 128 rfl rfl) (rowMajor_val2 x 128 rfl) ?_
  show 0 * 1024 + (x 0).val * 128 + (x 1).val = _
  omega

theorem one_line (x : S128.Idx) : ∃ y : S1x128.Idx, Shape.reshapeEquiv squeezes_S1x128_S128.numel_eq x = y
    ∧ (y 0).val = 0 ∧ (y 1).val = (x 0).val := by
  let y : S1x128.Idx := fun a => match a with
    | ⟨0, _⟩ => (⟨0, by decide⟩ : Fin 1)
    | ⟨1, _⟩ => x 0
  refine ⟨y, ?_, rfl, rfl⟩
  refine Shape.reshapeEquiv_eq_of_vals _ x y _ _ (rowMajor_val2 y 128 rfl) (rowMajor_val1 x) ?_
  show 0 * 128 + (x 0).val = _
  omega

theorem posRow_emb (x : S8x128.Idx) : (((posRow i).view.emb x : S32x8x128.Idx) 0).val = (wid i).val
    ∧ (((posRow i).view.emb x : S32x8x128.Idx) 1).val = (x 0).val ∧ (((posRow i).view.emb x : S32x8x128.Idx) 2).val = (x 1).val := by
  obtain ⟨y, hy, h0, h1, h2⟩ := one_row x
  have e : ∀ a, (((posRow i).view.emb x : S32x8x128.Idx) a).val
      = k0_off1 i a + 1 * ((Shape.reshapeEquiv squeezes_S1x8x128_S8x128.numel_eq x : S1x8x128.Idx) a).val := fun _ => rfl
  refine ⟨?_, ?_, ?_⟩ <;> rw [e, hy, k0_off1_eq]
  · rw [h0]; rfl
  · rw [h1]; show 0 + 1 * _ = _; omega
  · rw [h2]; show 0 + 1 * _ = _; omega

theorem rowM_emb (k : Fin 8) (x : S128.Idx) : (((rowM k).view.emb x : S8x128.Idx) 0).val = k.val
    ∧ (((rowM k).view.emb x : S8x128.Idx) 1).val = (x 0).val := by
  obtain ⟨y, hy, h0, h1⟩ := one_line x
  have e : ∀ a, (((rowM k).view.emb x : S8x128.Idx) a).val
      = (![k.val, 0] : Fin 2 → ℕ) a + 1 * ((Shape.reshapeEquiv squeezes_S1x128_S128.numel_eq x : S1x128.Idx) a).val := fun _ => rfl
  refine ⟨?_, ?_⟩ <;> rw [e, hy]
  · rw [h0]; rfl
  · rw [h1]; show 0 + 1 * _ = _; omega

theorem cosRows_emb (k : Fin 8) (x : S128x128.Idx) :
    (((cosRows i k).view.emb x : S32768x128.Idx) 0).val = 1024 * (wid i).val + 128 * k.val + (x 0).val
    ∧ (((cosRows i k).view.emb x : S32768x128.Idx) 1).val = (x 1).val := by
  have e : ∀ a, (((cosRows i k).view.emb x : S32768x128.Idx) a).val
      = k0_off2 i (BitVec.ofNat 32 (128 * k.val)) a + 1 * (x a).val := fun _ => rfl
  refine ⟨?_, ?_⟩ <;> rw [e, k0_off2_eq]
  · show 2048 * (i 1).val + 1024 * (i 0).val + 128 * k.val + 1 * (x 0).val = 1024 * (2 * (i 1).val + (i 0).val) + 128 * k.val + (x 0).val
    omega
  · show 0 + 1 * _ = _; omega

/-- Both results' windows of a chunk are the same rows. -/
theorem sinRows_emb (k : Fin 8) (x : S128x128.Idx) :
    ((sinRows i k).view.emb x : S32768x128.Idx) = ((cosRows i k).view.emb x : S32768x128.Idx) := rfl

/-- What the list holds once the tile's part of the positions is fetched. -/
def listed (P : S32x8x128.Idx → BitVec 32) : S8x128.Idx → BitVec 32 := fun y => P ((posRow i).view.emb y)

/-- Entry `j` of chunk `k`'s row of the list is the position of the result's row that chunk `k`'s window has at `j`. -/
theorem listed_at (P : S32x8x128.Idx → BitVec 32) (k : Fin 8) (z : S128.Idx) (x : S128x128.Idx) (hz : (z 0).val = (x 0).val) :
    listed i P ((rowM k).view.emb z) = P (place (((cosRows i k).view.emb x : S32768x128.Idx) 0)) := by
  unfold listed
  obtain ⟨h0, h1, h2⟩ := posRow_emb i ((rowM k).view.emb z)
  obtain ⟨g0, g1⟩ := rowM_emb k z
  obtain ⟨c0, -⟩ := cosRows_emb i k x
  have hx : (x 0).val < 128 := (x 0).isLt
  have hk := k.isLt
  refine congrArg P (funext fun a => Fin.ext ?_)
  match a with
  | ⟨0, _⟩ =>
    refine h0.trans ?_
    show _ = (((cosRows i k).view.emb x : S32768x128.Idx) 0).val / 1024
    rw [c0]; omega
  | ⟨1, _⟩ =>
    refine (h1.trans g0).trans ?_
    show _ = (((cosRows i k).view.emb x : S32768x128.Idx) 0).val / 128 % 8
    rw [c0]; omega
  | ⟨2, _⟩ =>
    refine (h2.trans (g1.trans hz)).trans ?_
    show _ = (((cosRows i k).view.emb x : S32768x128.Idx) 0).val % 128
    rw [c0]; omega

theorem listed_lt {P : S32x8x128.Idx → BitVec 32} (hP : ∀ y, (P y).toNat < 8192) (k : Fin 8) (z : S128.Idx) :
    ((rowM k).view.read (Elt F) (listed i P) z).toNat < S8192x128.size gathers_S8192x128_S128x128.axis := hP _

/-- A chunk's gathered rows are the result's rows of its window. -/
theorem gathered_rows (T : S8192x128.Idx → Elt F .f32) {P : S32x8x128.Idx → BitVec 32} (hP : ∀ y, (P y).toNat < 8192) (k : Fin 8)
    (hn : S128.numel = S128x128.size gathers_S8192x128_S128x128.axis') (x : S128x128.Idx) :
    SparseCore.gatherPayload (F := F) (e := .f32) gathers_S8192x128_S128x128 (cosTab.view.read (Elt F) T)
        (SparseCore.rows (F := F) ((rowM k).view.read (Elt F) (listed i P)) hn (listed_lt (F := F) i hP k)) x
      = looked T P ((cosRows i k).view.emb x) := by
  unfold SparseCore.gatherPayload looked
  obtain ⟨-, c1⟩ := cosRows_emb i k x
  refine congrArg T (funext fun a => Fin.ext ?_)
  match a with
  | ⟨0, _⟩ =>
    show 0 + 1 * (gathers_S8192x128_S128x128.idx _ x gathers_S8192x128_S128x128.axis).val = _
    rw [Shape.Gathers.idx_axis]
    have hz := rowMajor_val1 (d := S128.size) (S128.rowMajor.symm ((x 0 : Fin 128).cast hn.symm))
    have := listed_at i P k (S128.rowMajor.symm ((x 0 : Fin 128).cast hn.symm)) x
      (hz.symm.trans (by rw [show (⟨1, S128.size⟩ : Shape).rowMajor _ = (x 0 : Fin 128).cast hn.symm from S128.rowMajor.apply_symm_apply _]; rfl))
    show 0 + 1 * (listed i P ((rowM k).view.emb (S128.rowMajor.symm ((x 0 : Fin 128).cast hn.symm)))).toNat = (P _).toNat % 8192
    rw [this]
    have := hP (place (((cosRows i k).view.emb x : S32768x128.Idx) 0))
    omega
  | ⟨1, _⟩ =>
    show 0 + 1 * (gathers_S8192x128_S128x128.idx _ x 1).val = (((cosRows i k).view.emb x : S32768x128.Idx) 1).val
    rw [Shape.Gathers.idx_of_ne _ _ _ _ (by decide), c1]
    show 0 + 1 * (x 1).val = _
    omega

end Windows

end Cert.Proof.Values

end
-- ==== Proof.Turns.lean ====
/-
  THE RING'S ACTIONS, each for any slot, any chunk and any tile. A slot is IDLE (its buffers and semaphores its own, its
  shares of the tables in hand), or GATHERING a chunk (the two gathers in flight), or WRITING one (the two copies out in
  flight). Starting the gathers takes an idle slot and the chunk's line of the list; passing a slot on waits for its
  gathers, gives the line back and starts the copies to the chunk's rows of the results; finishing waits for the copies
  and leaves those rows holding the looked-up rows of the tables, the slot idle again.
-/
module

public import proofs.«01_k».proof.Proof.Values

@[expose] public section

noncomputable section

namespace Cert.Proof.Turns

open Cert.KernelIdeal Cert.KernelIdeal.Gen Cert.Proof.Body Cert.Proof.Values Cert.Proof.Streams
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev 𝒱₀ : Variants := Variants.none

abbrev cV (i : grid0.Coords) : Fin τ.nSC := (i 0).castLE hcore0
abbrev jV (i : grid0.Coords) : Fin τ.nSub := (i 1).castLE hsub0

/-! ## The amounts -/

/-- What one gathered row adds to its semaphore, and what one whole window does. -/
abbrev rowN : ℕ := (slot0.cos.slice (S128x128.rowRect gathers_S8192x128_S128x128.axis' (0 : Fin 128))
  (S128x128.stride_rowRect gathers_S8192x128_S128x128.axis' (0 : Fin 128))).view.dmaCredit
abbrev bufN : ℕ := slot0.cos.view.dmaCredit

theorem credit_row (b : Memref sig .scVector .vmem S128x128 .f32) (j : Fin (S128x128.size gathers_S8192x128_S128x128.axis')) :
    (b.slice (S128x128.rowRect gathers_S8192x128_S128x128.axis' j) (S128x128.stride_rowRect gathers_S8192x128_S128x128.axis' j)).view.dmaCredit = rowN := rfl
theorem bufN_rows : bufN = S128x128.size gathers_S8192x128_S128x128.axis' * rowN := by decide
theorem credit_buf {sp : Space} (b : Memref sig .scVector sp S128x128 .f32) : b.view.dmaCredit = bufN := rfl
theorem rowN_pos : 0 < rowN := by decide
theorem bufN_pos : 0 < bufN := by decide

/-! ## The slot's states -/

section Tile

variable (d : Dev nD) (i : grid0.Coords)
  (T₁ T₂ : S8192x128.Idx → Elt F .f32) (P : S32x8x128.Idx → BitVec 32)

/-- The thread of the tile at `i`. -/
abbrev thr : Thread nD τ := V d (cV i) (jV i)

/-- A share of both tables. -/
def tabs (q : PosShare TreeShare) : sProp 𝕄 :=
  iprop((cosTab.view.loc (thr d i) ↦[cosTab.view.set]{q} T₁) ∗ (sinTab.view.loc (thr d i) ↦[sinTab.view.set]{q} T₂))

/-- A slot's buffers, at some contents. -/
def bufs (b : Slot) : sProp 𝕄 :=
  iprop(∃ f₁, ∃ f₂, (b.cos.view.loc (thr d i) ↦[b.cos.view.set]{fullShare} f₁) ∗ (b.sin.view.loc (thr d i) ↦[b.sin.view.set]{fullShare} f₂))

/-- Chunk `k`'s line of the list. -/
def line (k : Fin 8) : sProp 𝕄 := iprop((rowM k).view.loc (thr d i) ↦[(rowM k).view.set]{fullShare} listed i P)

/-- Chunk `k`'s rows of the results, at given contents. -/
def rowsAt (k : Fin 8) (f₁ f₂ : S32768x128.Idx → Elt F .f32) : sProp 𝕄 :=
  iprop(((cosRows i k).view.loc (thr d i) ↦[(cosRows i k).view.set]{fullShare} f₁)
    ∗ ((sinRows i k).view.loc (thr d i) ↦[(sinRows i k).view.set]{fullShare} f₂))

/-- An idle slot. -/
def idle (b : Slot) (q : PosShare TreeShare) : sProp 𝕄 :=
  iprop(tabs d i T₁ T₂ q ∗ bufs d i b ∗ semVal (thr d i, .dma b.gat) 0 ∗ semVal (thr d i, .dma b.out) 0)

/-- A slot whose two gathers of chunk `k` are in flight. -/
def gathering (hP : ∀ y, (P y).toNat < 8192) (b : Slot) (q : PosShare TreeShare) (k : Fin 8) : sProp 𝕄 :=
  iprop((∃ f₁, ∃ f₂, PairFlight countersEmb (thr d i) cosTab sinTab b.cos b.sin gathers_S8192x128_S128x128 (rowM k) rfl q q T₁ T₂ f₁ f₂ (listed i P)
      b.gat (default : HIx 1) rowN (listed_lt (F := F) i hP k) (by decide)) ∗ semVal (thr d i, .dma b.out) 0)

/-- A slot whose two copies to chunk `k`'s rows are in flight, its buffers at those rows' final contents. -/
def writing (b : Slot) (q : PosShare TreeShare) (k : Fin 8) : sProp 𝕄 :=
  iprop((∃ f₁, ∃ f₂, ∃ g₁, ∃ g₂, ⌜(∀ x, b.cos.view.read (Elt F) f₁ x = looked T₁ P ((cosRows i k).view.emb x))
        ∧ ∀ x, b.sin.view.read (Elt F) f₂ x = looked T₂ P ((sinRows i k).view.emb x)⌝
      ∗ CopyFlight countersEmb (thr d i) b.cos b.sin (cosRows i k) (sinRows i k) f₁ f₂ g₁ g₂ b.out (default : HIx 1) bufN)
    ∗ tabs d i T₁ T₂ q ∗ semVal (thr d i, .dma b.gat) 0)

/-- The tile's waits so far, each beyond `W` recorded at no handshake. -/
def waits (O : CellTallies nD τ sig (HIx 1)) (W : Waits sig (HIx 1)) : sProp 𝕄 :=
  iprop(∃ W', ⌜∀ p ∈ W', p ∈ W ∨ p.2 = none⌝ ∗ owes (thr d i) O W')

theorem waits_insert {O : CellTallies nD τ sig (HIx 1)} {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-! ## The actions -/

variable {Q : PUnit.{1} → sProp (MT nD τ sig (HIx 1) (Elt F) ℕ UU ℕ)} {R : PUnit.{1} → TileProg (F := F) i}
  {O : CellTallies nD τ sig (HIx 1)} {W : Waits sig (HIx 1)}

variable [FloatOps F]

theorem wp_startGathers (hP : ∀ y, (P y).toNat < 8192) (b : Slot) (q : PosShare TreeShare) (k : Fin 8) :
    iprop(idle d i T₁ T₂ b q ∗ line d i P k)
      ⊢ iprop((gathering d i T₁ T₂ P hP b q k -∗ wp frame (wpE (defs₀ (F := F)) 𝒱₀ (thr d i) none) Set.univ (R ⟨⟩) Q) -∗ wp frame (wpE (defs₀ (F := F)) 𝒱₀ (thr d i) none) Set.univ (startGathers i b k >>= R) Q) := by
  unfold idle line tabs bufs gathering
  rw [Prog.bind_assoc]
  iintro ⟨⟨Ht, ⟨%f₁, %f₂, Hb⟩, Hg, Ho⟩, Hl⟩ Hk
  iapply (wp_gatherPair countersEmb 𝒱₀ (thr d i) none cosTab sinTab b.cos b.sin gathers_S8192x128_S128x128 (rowM k) rfl q q T₁ T₂ f₁ f₂ (listed i P)
    (default : HIx 1) (N := rowN) (credit_row b.cos) (credit_row b.sin) (by decide) (listed_lt (F := F) i hP k)) $$ [Ht Hb Hg Hl]
  · isplitl [Ht]; · iexact Ht
    isplitl [Hb]; · iexact Hb
    isplitl [Hl]; · iexact Hl
    iexact Hg
  iintro Hf
  iapply Hk
  isplitl [Hf]
  · iexists f₁, f₂; iexact Hf
  iexact Ho

/-- What a write of the whole of a view leaves there is what was written. -/
theorem read_written (b : Memref sig .scVector .vmem S128x128 .f32) (f : b.view.ty.Contents (Elt F)) (w : S128x128.Idx → Elt F .f32) (x : S128x128.Idx) :
    b.view.read (Elt F) (b.view.write (Elt F) f w Finset.univ) x = w x := by
  rw [View.read_apply, View.write_emb_of_mem _ _ (Finset.mem_univ x), cast_cast, cast_eq]

theorem wp_passOn (hP : ∀ y, (P y).toNat < 8192) (b : Slot) (q : PosShare TreeShare) (k : Fin 8) (g₁ g₂ : S32768x128.Idx → Elt F .f32) :
    iprop(Transfers.MayWaits (thr d i) (default : HIx 1) O ∗ gathering d i T₁ T₂ P hP b q k ∗ rowsAt d i k g₁ g₂ ∗ waits d i O W)
      ⊢ iprop((iprop(writing d i T₁ T₂ P b q k ∗ line d i P k ∗ waits d i O W) -∗ wp frame (wpE (defs₀ (F := F)) 𝒱₀ (thr d i) none) Set.univ (R ⟨⟩) Q)
          -∗ wp frame (wpE (defs₀ (F := F)) 𝒱₀ (thr d i) none) Set.univ (waitGathers i b >>= fun _ => startCopies i b k >>= R) Q) := by
  unfold gathering rowsAt waits writing line tabs
  rw [Prog.bind_assoc]
  iintro ⟨#Hmw, ⟨⟨%f₁, %f₂, Hf⟩, Ho⟩, Hr, ⟨%W', %hW', HO⟩⟩ Hk
  iapply (wp_waitPair countersEmb 𝒱₀ (thr d i) none cosTab sinTab b.cos b.sin gathers_S8192x128_S128x128 (rowM k) rfl q q T₁ T₂ f₁ f₂ (listed i P)
    (default : HIx 1) (N := rowN) rowN_pos bufN_rows bufN_rows (by decide) (listed_lt (F := F) i hP k)) $$ [Hf HO]
  · isplitl [Hf]; · iexact Hf
    isplitl [HO]; · iexact HO
    iexact Hmw
  iintro ⟨⟨Hb, Ht, Hl, Hg⟩, HO⟩
  rw [Prog.bind_assoc]
  iapply (wp_copyPair countersEmb 𝒱₀ (thr d i) none b.cos b.sin (cosRows i k) (sinRows i k) _ _ g₁ g₂ (default : HIx 1) (N := bufN) rfl rfl) $$ [Hb Hr Ho]
  · isplitl [Hb]; · iexact Hb
    isplitl [Hr]; · iexact Hr
    iexact Ho
  iintro Hf
  iapply Hk
  isplitl [Hf Ht Hg]
  · isplitl [Hf]
    · iexists _, _, g₁, g₂
      isplitr
      swap; · iexact Hf
      ipureintro
      refine ⟨fun x => ?_, fun x => ?_⟩
      · rw [read_written]; exact gathered_rows i T₁ hP k rfl x
      · rw [read_written]; exact gathered_rows i T₂ hP k rfl x
    isplitl [Ht]; · iexact Ht
    iexact Hg
  isplitl [Hl]; · iexact Hl
  iexists _
  isplitr
  swap; · iexact HO
  ipureintro
  exact waits_insert (O := O) (waits_insert (O := O) hW' _) _

/-- A turn: the next slot started, this one passed on. -/
theorem wp_turn (hP : ∀ y, (P y).toNat < 8192) (b : Slot) (q : PosShare TreeShare) (k : Fin 8) (b' : Slot) (q' : PosShare TreeShare) (k' : Fin 8)
    (g₁ g₂ : S32768x128.Idx → Elt F .f32) :
    iprop(Transfers.MayWaits (thr d i) (default : HIx 1) O ∗ idle d i T₁ T₂ b' q' ∗ line d i P k' ∗ gathering d i T₁ T₂ P hP b q k
        ∗ rowsAt d i k g₁ g₂ ∗ waits d i O W)
      ⊢ iprop((iprop(gathering d i T₁ T₂ P hP b' q' k' ∗ writing d i T₁ T₂ P b q k ∗ line d i P k ∗ waits d i O W) -∗ wp frame (wpE (defs₀ (F := F)) 𝒱₀ (thr d i) none) Set.univ (R ⟨⟩) Q)
          -∗ wp frame (wpE (defs₀ (F := F)) 𝒱₀ (thr d i) none) Set.univ (turn i b k b' k' >>= R) Q) := by
  rw [show turn (F := F) i b k b' k' >>= R = startGathers i b' k' >>= fun _ => waitGathers i b >>= fun _ => startCopies i b k >>= R by
    unfold turn; simp only [Prog.bind_assoc]]
  iintro ⟨#Hmw, Hi, Hl', Hg, Hr, HW⟩ Hk
  iapply (wp_startGathers d i T₁ T₂ P hP b' q' k') $$ [Hi Hl']
  · isplitl [Hi] <;> iassumption
  iintro Hg'
  iapply (wp_passOn d i T₁ T₂ P hP b q k g₁ g₂) $$ [Hg Hr HW]
  · isplitr; · iexact Hmw
    isplitl [Hg]; · iexact Hg
    isplitl [Hr] <;> iassumption
  iintro ⟨Hw, Hl, HW⟩
  iapply Hk
  isplitl [Hg']; · iexact Hg'
  isplitl [Hw]; · iexact Hw
  isplitl [Hl] <;> iassumption

/-- A chunk's rows written from a buffer that holds their final contents are at the final contents. -/
theorem written_rows (m : Memref sig .scVector .hbm S128x128 .f32) (g f : m.view.ty.Contents (Elt F)) (w : S128x128.Idx → Elt F .f32)
    (h : ∀ x, w x = m.view.read (Elt F) f x) :
    (m.view.loc (thr d i) ↦[m.view.set]{fullShare} (m.view.write (Elt F) g w Finset.univ) : sProp 𝕄) = m.view.loc (thr d i) ↦[m.view.set]{fullShare} f := by
  refine pointsTo_congr fun y hy => ?_
  obtain ⟨x, -, rfl⟩ := Finset.mem_map.mp hy
  rw [View.write_emb_of_mem _ _ (Finset.mem_univ x), h, View.read_apply, cast_cast, cast_eq]

theorem wp_finish (b : Slot) (q : PosShare TreeShare) (k : Fin 8) :
    iprop(Transfers.MayWaits (thr d i) (default : HIx 1) O ∗ writing d i T₁ T₂ P b q k ∗ waits d i O W)
      ⊢ iprop((iprop(idle d i T₁ T₂ b q ∗ rowsAt d i k (looked T₁ P) (looked T₂ P) ∗ waits d i O W) -∗ wp frame (wpE (defs₀ (F := F)) 𝒱₀ (thr d i) none) Set.univ (R ⟨⟩) Q)
          -∗ wp frame (wpE (defs₀ (F := F)) 𝒱₀ (thr d i) none) Set.univ (waitCopies i b k >>= R) Q) := by
  unfold writing waits idle rowsAt bufs
  rw [Prog.bind_assoc]
  iintro ⟨#Hmw, ⟨⟨%f₁, %f₂, %g₁, %g₂, %hf, Hf⟩, Ht, Hg⟩, ⟨%W', %hW', HO⟩⟩ Hk
  iapply (wp_waitCopyPair countersEmb 𝒱₀ (thr d i) none b.cos b.sin (cosRows i k) (sinRows i k) f₁ f₂ g₁ g₂ (default : HIx 1) (N := bufN) bufN_pos rfl rfl) $$ [Hf HO]
  · isplitl [Hf]; · iexact Hf
    isplitl [HO]; · iexact HO
    iexact Hmw
  iintro ⟨⟨Hb, ⟨Hr₁, Hr₂⟩, Ho⟩, HO⟩
  iapply Hk
  isplitl [Ht Hb Hg Ho]
  · isplitl [Ht]; · iexact Ht
    isplitl [Hb]; · iexists f₁, f₂; iexact Hb
    isplitl [Hg] <;> iassumption
  isplitl [Hr₁ Hr₂]
  · isplitl [Hr₁]
    · iapply (Entails.of_eq (written_rows d i (cosRows i k) g₁ (looked T₁ P) _ hf.1)) $$ Hr₁
    · iapply (Entails.of_eq (written_rows d i (sinRows i k) g₂ (looked T₂ P) _ hf.2)) $$ Hr₂
  iexists _
  isplitr
  swap; · iexact HO
  ipureintro
  exact waits_insert (O := O) (waits_insert (O := O) hW' _) _

end Tile

end Cert.Proof.Turns

end
-- ==== Proof.Tile.lean ====
/-
  ONE TILE'S WHOLE RUN: fetch the list, then the ring's turns in the body's order. From its part of the positions, its
  shares of the tables and its rows of both results, the tile ends with those rows holding the looked-up rows, its
  buffers and semaphores its own again.
-/
module

public import proofs.«01_k».proof.Proof.Turns

@[expose] public section

noncomputable section

namespace Cert.Proof.Tile

open Cert.KernelIdeal Cert.KernelIdeal.Gen Cert.Proof.Body Cert.Proof.Values Cert.Proof.Streams Cert.Proof.Turns
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  iterate 6 rw [SparseCore.bigSep_insert' (by decide)]
  rw [bigSep_singleton]

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  iterate 7 rw [SparseCore.bigSep_insert' (by decide)]
  rw [bigSep_singleton]

section Tile

variable (d : Dev nD) (i : grid0.Coords)
  (T₁ T₂ : S8192x128.Idx → Elt F .f32) (P : S32x8x128.Idx → BitVec 32)

/-! ## The list's lines -/

/-- Line `k`'s entries of the list. -/
abbrev lineSet (k : Fin 8) : Finset S8x128.Idx := (rowM k).view.set

theorem mem_rowM {k : Fin 8} {y : S8x128.Idx} (h : y ∈ lineSet k) : (y 0).val = k.val := by
  obtain ⟨x, -, rfl⟩ := Finset.mem_map.mp h
  exact (rowM_emb k x).1

theorem rowM_disjoint : ∀ k ∈ (Finset.univ : Finset (Fin 8)), ∀ k' ∈ (Finset.univ : Finset (Fin 8)), k ≠ k' →
    Disjoint (lineSet k) (lineSet k') := fun k _ k' _ h =>
  Finset.disjoint_left.mpr fun _ hy hy' => h (Fin.ext ((mem_rowM hy).symm.trans (mem_rowM hy')))

theorem rowM_cover : (Finset.univ : Finset (Fin 8)).biUnion lineSet = Finset.univ := by
  refine Finset.eq_univ_iff_forall.mpr fun y => Finset.mem_biUnion.mpr ⟨(y 0 : Fin 8), Finset.mem_univ _, ?_⟩
  let x : S128.Idx := fun a => match a with
    | ⟨0, _⟩ => y 1
  refine Finset.mem_map.mpr ⟨x, Finset.mem_univ _, funext fun a => Fin.ext ?_⟩
  obtain ⟨h0, h1⟩ := rowM_emb (y 0 : Fin 8) x
  match a with
  | ⟨0, _⟩ => exact h0
  | ⟨1, _⟩ => exact h1

/-- The list whole is its eight lines. -/
theorem list_lines : (listM.view.loc (thr d i) ↦[listM.view.set]{fullShare} listed i P : sProp 𝕄) = bigSep Finset.univ fun k => line d i P k := by
  have hs : (listM.view.set : Finset S8x128.Idx) = Finset.univ := View.set_whole _
  rw [hs, ← rowM_cover, pointsTo_biUnion Finset.univ (ℓ := listM.view.loc (thr d i)) lineSet rowM_disjoint]
  rfl

/-! ## The fetch -/

variable {Q : PUnit.{1} → sProp (MT nD τ sig (HIx 1) (Elt F) ℕ UU ℕ)} {R : PUnit.{1} → TileProg (F := F) i}
  {O : CellTallies nD τ sig (HIx 1)} {W : Waits sig (HIx 1)}

/-- The tile's part of the positions. -/
def part : sProp 𝕄 := iprop((posRow i).view.loc (thr d i) ↦[(posRow i).view.set]{fullShare} P)

/-- The semaphore of the fetch, at zero. -/
def fetchCell : sProp 𝕄 := semVal (thr d i, .dma cc0_scoped0.sem) 0

variable [FloatOps F]

theorem wp_fetch (f : S8x128.Idx → BitVec 32) :
    iprop(Transfers.MayWaits (thr d i) (default : HIx 1) O ∗ part d i P ∗ (listM.view.loc (thr d i) ↦[listM.view.set]{fullShare} f) ∗ fetchCell d i ∗ waits d i O W)
      ⊢ iprop((iprop(part d i P ∗ (bigSep Finset.univ fun k => line d i P k) ∗ fetchCell d i ∗ waits d i O W) -∗ wp frame (wpE (defs₀ (F := F)) 𝒱₀ (thr d i) none) Set.univ (R ⟨⟩) Q)
          -∗ wp frame (wpE (defs₀ (F := F)) 𝒱₀ (thr d i) none) Set.univ (fetch i >>= R) Q) := by
  unfold part fetchCell waits
  rw [← list_lines]
  rw [Prog.bind_assoc, lift_bind (thr d i)]
  iintro ⟨#Hmw, Hp, Hl, Hv, ⟨%W', %hW', HO⟩⟩ Hk
  iapply (Transfers.wp_dmaLocal countersEmb 𝒱₀ (thr d i) none (default : HIx 1) listM.view.dmaCredit (View.amount_dma _ _) (by decide) (subset_refl _)) $$ [Hp Hl Hv]
  · isplitl [Hp]; · iexact Hp
    isplitl [Hl]; · iexact Hl
    iexact Hv
  iintro Hf
  rw [lift_bind (thr d i)]
  iapply (Transfers.wp_waitLocalO countersEmb 𝒱₀ (thr d i) none (default : HIx 1) (rfl : listM.view.dmaCredit = _)) $$ [Hf HO]
  · isplitl [Hf]; · iexact Hf
    isplitl [HO]; · iexact HO
    iapply (Transfers.MayWaits.elim (SemLoc.dma cc0_scoped0.sem)) $$ Hmw
  iintro ⟨⟨Hl, Hp⟩, Hv, HO⟩
  iapply Hk
  isplitl [Hp]; · iexact Hp
  isplitl [Hl]
  · iapply (Entails.of_eq (pointsTo_congr (ℓ := listM.view.loc (thr d i)) (I := listM.view.set) (q := fullShare) (fun y _ =>
      congrFun (View.write_whole_univ (Val := Elt F) cc0_scratch0 f ((posRow i).view.read (Elt F) P)) y))) $$ Hl
  isplitl [Hv]; · iexact Hv
  iexists _
  isplitr
  swap; · iexact HO
  ipureintro
  exact waits_insert (O := O) hW' _

/-! ## The body -/

theorem wp_body (hP : ∀ y, (P y).toNat < 8192) (q₀ q₁ q₂ : PosShare TreeShare) (f : S8x128.Idx → BitVec 32) (g₁ g₂ : S32768x128.Idx → Elt F .f32) :
    iprop(Transfers.MayWaits (thr d i) (default : HIx 1) O ∗ part d i P ∗ (listM.view.loc (thr d i) ↦[listM.view.set]{fullShare} f) ∗ fetchCell d i
        ∗ (idle d i T₁ T₂ slot0 q₀ ∗ idle d i T₁ T₂ slot1 q₁ ∗ idle d i T₁ T₂ slot2 q₂)
        ∗ (bigSep Finset.univ fun k => rowsAt d i k g₁ g₂) ∗ waits d i O W)
      ⊢ wp frame (wpE (defs₀ (F := F)) 𝒱₀ (thr d i) none) Set.univ (body i) fun _ => iprop(part d i P ∗ (listM.view.loc (thr d i) ↦[listM.view.set]{fullShare} listed i P) ∗ fetchCell d i
        ∗ (idle d i T₁ T₂ slot0 q₀ ∗ idle d i T₁ T₂ slot1 q₁ ∗ idle d i T₁ T₂ slot2 q₂)
        ∗ (bigSep Finset.univ fun k => rowsAt d i k (looked T₁ P) (looked T₂ P)) ∗ waits d i O W) := by
  rw [list_lines]
  simp only [bigSep_eight]
  unfold body
  iintro ⟨#Hmw, Hp, Hl, Hf, ⟨I0, I1, I2⟩, ⟨R0, R1, R2, R3, R4, R5, R6, R7⟩, HW⟩
  iapply (wp_fetch d i P f) $$ [Hp Hl Hf HW]
  · isplitr; · iexact Hmw
    isplitl [Hp]; · iexact Hp
    isplitl [Hl]; · iexact Hl
    isplitl [Hf] <;> iassumption
  rw [bigSep_eight]
  iintro ⟨Hp, ⟨L0, L1, L2, L3, L4, L5, L6, L7⟩, Hf, HW⟩
  -- chunk 0 into slot 0
  iapply (wp_startGathers d i T₁ T₂ P hP slot0 q₀ 0) $$ [I0 L0]
  · isplitl [I0] <;> iassumption
  iintro G0
  iapply (wp_turn d i T₁ T₂ P hP slot0 q₀ 0 slot1 q₁ 1 g₁ g₂) $$ [I1 L1 G0 R0 HW]
  · isplitr; · iexact Hmw
    isplitl [I1]; · iexact I1
    isplitl [L1]; · iexact L1
    isplitl [G0]; · iexact G0
    isplitl [R0] <;> iassumption
  iintro ⟨G1, W0, L0, HW⟩
  iapply (wp_turn d i T₁ T₂ P hP slot1 q₁ 1 slot2 q₂ 2 g₁ g₂) $$ [I2 L2 G1 R1 HW]
  · isplitr; · iexact Hmw
    isplitl [I2]; · iexact I2
    isplitl [L2]; · iexact L2
    isplitl [G1]; · iexact G1
    isplitl [R1] <;> iassumption
  iintro ⟨G2, W1, L1, HW⟩
  iapply (wp_finish d i T₁ T₂ P slot0 q₀ 0) $$ [W0 HW]
  · isplitr; · iexact Hmw
    isplitl [W0] <;> iassumption
  iintro ⟨I0, R0, HW⟩
  iapply (wp_turn d i T₁ T₂ P hP slot2 q₂ 2 slot0 q₀ 3 g₁ g₂) $$ [I0 L3 G2 R2 HW]
  · isplitr; · iexact Hmw
    isplitl [I0]; · iexact I0
    isplitl [L3]; · iexact L3
    isplitl [G2]; · iexact G2
    isplitl [R2] <;> iassumption
  iintro ⟨G3, W2, L2, HW⟩
  iapply (wp_finish d i T₁ T₂ P slot1 q₁ 1) $$ [W1 HW]
  · isplitr; · iexact Hmw
    isplitl [W1] <;> iassumption
  iintro ⟨I1, R1, HW⟩
  iapply (wp_turn d i T₁ T₂ P hP slot0 q₀ 3 slot1 q₁ 4 g₁ g₂) $$ [I1 L4 G3 R3 HW]
  · isplitr; · iexact Hmw
    isplitl [I1]; · iexact I1
    isplitl [L4]; · iexact L4
    isplitl [G3]; · iexact G3
    isplitl [R3] <;> iassumption
  iintro ⟨G4, W3, L3, HW⟩
  iapply (wp_finish d i T₁ T₂ P slot2 q₂ 2) $$ [W2 HW]
  · isplitr; · iexact Hmw
    isplitl [W2] <;> iassumption
  iintro ⟨I2, R2, HW⟩
  iapply (wp_turn d i T₁ T₂ P hP slot1 q₁ 4 slot2 q₂ 5 g₁ g₂) $$ [I2 L5 G4 R4 HW]
  · isplitr; · iexact Hmw
    isplitl [I2]; · iexact I2
    isplitl [L5]; · iexact L5
    isplitl [G4]; · iexact G4
    isplitl [R4] <;> iassumption
  iintro ⟨G5, W4, L4, HW⟩
  iapply (wp_finish d i T₁ T₂ P slot0 q₀ 3) $$ [W3 HW]
  · isplitr; · iexact Hmw
    isplitl [W3] <;> iassumption
  iintro ⟨I0, R3, HW⟩
  iapply (wp_turn d i T₁ T₂ P hP slot2 q₂ 5 slot0 q₀ 6 g₁ g₂) $$ [I0 L6 G5 R5 HW]
  · isplitr; · iexact Hmw
    isplitl [I0]; · iexact I0
    isplitl [L6]; · iexact L6
    isplitl [G5]; · iexact G5
    isplitl [R5] <;> iassumption
  iintro ⟨G6, W5, L5, HW⟩
  iapply (wp_finish d i T₁ T₂ P slot1 q₁ 4) $$ [W4 HW]
  · isplitr; · iexact Hmw
    isplitl [W4] <;> iassumption
  iintro ⟨I1, R4, HW⟩
  iapply (wp_turn d i T₁ T₂ P hP slot0 q₀ 6 slot1 q₁ 7 g₁ g₂) $$ [I1 L7 G6 R6 HW]
  · isplitr; · iexact Hmw
    isplitl [I1]; · iexact I1
    isplitl [L7]; · iexact L7
    isplitl [G6]; · iexact G6
    isplitl [R6] <;> iassumption
  iintro ⟨G7, W6, L6, HW⟩
  iapply (wp_passOn d i T₁ T₂ P hP slot1 q₁ 7 g₁ g₂) $$ [G7 R7 HW]
  · isplitr; · iexact Hmw
    isplitl [G7]; · iexact G7
    isplitl [R7] <;> iassumption
  iintro ⟨W7, L7, HW⟩
  -- the last three copies
  iapply (wp_finish d i T₁ T₂ P slot2 q₂ 5) $$ [W5 HW]
  · isplitr; · iexact Hmw
    isplitl [W5] <;> iassumption
  iintro ⟨I2, R5, HW⟩
  iapply (wp_finish d i T₁ T₂ P slot0 q₀ 6) $$ [W6 HW]
  · isplitr; · iexact Hmw
    isplitl [W6] <;> iassumption
  iintro ⟨I0, R6, HW⟩
  iapply (wp_finish d i T₁ T₂ P slot1 q₁ 7) $$ [W7 HW]
  · isplitr; · iexact Hmw
    isplitl [W7] <;> iassumption
  iintro ⟨I1, R7, HW⟩
  rw [wp_pure]
  imodintro
  isplitl [Hp]; · iexact Hp
  isplitl [L0 L1 L2 L3 L4 L5 L6 L7]
  · isplitl [L0]; · iexact L0
    isplitl [L1]; · iexact L1
    isplitl [L2]; · iexact L2
    isplitl [L3]; · iexact L3
    isplitl [L4]; · iexact L4
    isplitl [L5]; · iexact L5
    isplitl [L6] <;> iassumption
  isplitl [Hf]; · iexact Hf
  isplitl [I0 I1 I2]
  · isplitl [I0]; · iexact I0
    isplitl [I1] <;> iassumption
  isplitr [HW]
  · isplitl [R0]; · iexact R0
    isplitl [R1]; · iexact R1
    isplitl [R2]; · iexact R2
    isplitl [R3]; · iexact R3
    isplitl [R4]; · iexact R4
    isplitl [R5]; · iexact R5
    isplitl [R6] <;> iassumption
  iexact HW

end Tile

end Cert.Proof.Tile

end
-- ==== Proof.Split.lean ====
/-
  THE ARRAYS AND THE 32 TILES. Each array of the call is the tiles' parts of it: the positions by the tile's part, the
  results by tile and chunk, the tables by read shares, one in 32 for each tile. The two directions are one equation, at
  any contents of the results, so the same equation parts the arrays before the call and joins them after.
-/
module

public import proofs.«01_k».proof.Proof.Tile

@[expose] public section

noncomputable section

namespace Cert.Proof.Split

open Cert.KernelIdeal Cert.KernelIdeal.Gen Cert.Proof.Body Cert.Proof.Values Cert.Proof.Turns Cert.Proof.Tile
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile of core `c`, subcore `s`. -/
def tileAt (c : Fin 2) (s : Fin 16) : grid0.Coords :=
  fun | 0 => c | 1 => s | ⟨_ + 2, h⟩ => absurd h (Nat.not_lt.2 (Nat.le_add_left _ _))

theorem wid_tileAt (c : Fin 2) (s : Fin 16) : (wid (tileAt c s)).val = 2 * s.val + c.val := rfl

/-- Core and subcore, as the tile's number. -/
def numbering : Fin 2 × Fin 16 ≃ Fin 32 := (Equiv.prodComm _ _).trans finProdFinEquiv

theorem numbering_eq (p : Fin 2 × Fin 16) : numbering p = wid (tileAt p.1 p.2) := by
  refine Fin.ext ?_
  rw [wid_tileAt]
  show p.1.val + 2 * p.2.val = _
  omega

/-- A tile's read share of the tables. -/
def shareOf (i : grid0.Coords) : PosShare TreeShare := pieceOf fullShare 32 (by decide) (wid i)

theorem tile_ext {p p' : Fin 2 × Fin 16} (h : (wid (tileAt p.1 p.2)).val = (wid (tileAt p'.1 p'.2)).val) : p = p' :=
  numbering.injective (by rw [numbering_eq, numbering_eq]; exact Fin.ext h)

/-! ## The positions -/

/-- A tile's part of the positions. -/
abbrev partSet (p : Fin 2 × Fin 16) : Finset S32x8x128.Idx := (posRow (tileAt p.1 p.2)).view.set

theorem mem_part {p : Fin 2 × Fin 16} {y : S32x8x128.Idx} (h : y ∈ partSet p) : (y 0).val = (wid (tileAt p.1 p.2)).val := by
  obtain ⟨x, -, rfl⟩ := Finset.mem_map.mp h
  exact (posRow_emb _ x).1

theorem part_disjoint : ∀ p ∈ (Finset.univ : Finset (Fin 2 × Fin 16)), ∀ p' ∈ (Finset.univ : Finset (Fin 2 × Fin 16)), p ≠ p' →
    Disjoint (partSet p) (partSet p') := fun _ _ _ _ h =>
  Finset.disjoint_left.mpr fun _ hy hy' => h (tile_ext ((mem_part hy).symm.trans (mem_part hy')))

theorem part_cover : (Finset.univ : Finset (Fin 2 × Fin 16)).biUnion partSet = Finset.univ := by
  refine Finset.eq_univ_iff_forall.mpr fun y => ?_
  let w : Fin 32 := y 0
  refine Finset.mem_biUnion.mpr ⟨numbering.symm w, Finset.mem_univ _, ?_⟩
  let x : S8x128.Idx := fun a => match a with
    | ⟨0, _⟩ => y 1
    | ⟨1, _⟩ => y 2
  refine Finset.mem_map.mpr ⟨x, Finset.mem_univ _, funext fun a => Fin.ext ?_⟩
  obtain ⟨h0, h1, h2⟩ := posRow_emb (tileAt (numbering.symm w).1 (numbering.symm w).2) x
  rw [← numbering_eq, Equiv.apply_symm_apply] at h0
  match a with
  | ⟨0, _⟩ => exact h0
  | ⟨1, _⟩ => exact h1
  | ⟨2, _⟩ => exact h2

/-! ## The results -/

/-- A chunk's rows of a result. -/
abbrev rowsSet (p : (Fin 2 × Fin 16) × Fin 8) : Finset S32768x128.Idx := (cosRows (tileAt p.1.1 p.1.2) p.2).view.set

theorem mem_rows {p : (Fin 2 × Fin 16) × Fin 8} {y : S32768x128.Idx} (h : y ∈ rowsSet p) :
    (y 0).val / 1024 = (wid (tileAt p.1.1 p.1.2)).val ∧ (y 0).val / 128 % 8 = p.2.val := by
  obtain ⟨x, -, rfl⟩ := Finset.mem_map.mp h
  have e := (cosRows_emb (tileAt p.1.1 p.1.2) p.2 x).1
  have hx : (x 0).val < 128 := (x 0).isLt
  have hk := p.2.isLt
  constructor
  · show (((cosRows (tileAt p.1.1 p.1.2) p.2).view.emb x : S32768x128.Idx) 0).val / 1024 = _
    rw [e]; omega
  · show (((cosRows (tileAt p.1.1 p.1.2) p.2).view.emb x : S32768x128.Idx) 0).val / 128 % 8 = _
    rw [e]; omega

theorem rows_disjoint : ∀ p ∈ (Finset.univ : Finset ((Fin 2 × Fin 16) × Fin 8)), ∀ p' ∈ (Finset.univ : Finset ((Fin 2 × Fin 16) × Fin 8)), p ≠ p' →
    Disjoint (rowsSet p) (rowsSet p') := fun p _ p' _ h =>
  Finset.disjoint_left.mpr fun _ hy hy' => h (Prod.ext (tile_ext ((mem_rows hy).1.symm.trans (mem_rows hy').1))
    (Fin.ext ((mem_rows hy).2.symm.trans (mem_rows hy').2)))

theorem rows_cover : (Finset.univ : Finset ((Fin 2 × Fin 16) × Fin 8)).biUnion rowsSet = Finset.univ := by
  refine Finset.eq_univ_iff_forall.mpr fun y => ?_
  have hy : (y 0).val < 32768 := (y 0).isLt
  let w : Fin 32 := ⟨(y 0).val / 1024, by omega⟩
  let k : Fin 8 := ⟨(y 0).val / 128 % 8, by omega⟩
  let x : S128x128.Idx := fun a => match a with
    | ⟨0, _⟩ => (⟨(y 0).val % 128, by omega⟩ : Fin 128)
    | ⟨1, _⟩ => y 1
  refine Finset.mem_biUnion.mpr ⟨(numbering.symm w, k), Finset.mem_univ _, Finset.mem_map.mpr ⟨x, Finset.mem_univ _, funext fun a => Fin.ext ?_⟩⟩
  obtain ⟨h0, h1⟩ := cosRows_emb (tileAt (numbering.symm w).1 (numbering.symm w).2) k x
  rw [← numbering_eq, Equiv.apply_symm_apply] at h0
  match a with
  | ⟨0, _⟩ =>
    refine h0.trans ?_
    show 1024 * ((y 0).val / 1024) + 128 * ((y 0).val / 128 % 8) + (y 0).val % 128 = (y 0).val
    omega
  | ⟨1, _⟩ => exact h1

/-! ## What a tile is handed, and the whole -/

section Pts

variable (d : Dev nD) (T₁ T₂ : S8192x128.Idx → Elt F .f32) (P : S32x8x128.Idx → BitVec 32) (g₁ g₂ : S32768x128.Idx → Elt F .f32)

abbrev posLoc : Loc nD τ sig := (SparseCore.T d).loc main_v0
abbrev cosLoc : Loc nD τ sig := (SparseCore.T d).loc main_arg1
abbrev sinLoc : Loc nD τ sig := (SparseCore.T d).loc main_arg2
abbrev cosOutLoc : Loc nD τ sig := (SparseCore.T d).loc main_v1_0
abbrev sinOutLoc : Loc nD τ sig := (SparseCore.T d).loc main_v1_1

/-- A tile's part of everything, the results at given contents. -/
def tileHas (i : grid0.Coords) : sProp 𝕄 :=
  iprop(part d i P ∗ tabs d i T₁ T₂ (shareOf i) ∗ bigSep Finset.univ fun k => rowsAt d i k g₁ g₂)

instance tileHas_storable (i : grid0.Coords) : Storable (upEmb : UEmb _ 𝕄) (tileHas d T₁ T₂ P g₁ g₂ i) := by
  unfold tileHas part tabs rowsAt; infer_instance

theorem pos_split : (posLoc d ↦{fullShare} P : sProp 𝕄)
    = bigSep Finset.univ fun c : Fin 2 => bigSep Finset.univ fun s : Fin 16 => part d (tileAt c s) P := by
  rw [← part_cover, pointsTo_biUnion Finset.univ (ℓ := posLoc d) partSet part_disjoint, bigSep_univ_prod]
  rfl

theorem shares_split (ℓ : Loc nD τ sig) (f : Buf (Elt F) ℓ) : (ℓ ↦{fullShare} f : sProp 𝕄)
    = bigSep Finset.univ fun c : Fin 2 => bigSep Finset.univ fun s : Fin 16 => ℓ ↦{shareOf (tileAt c s)} f := by
  rw [pointsTo_piecesOf Finset.univ f (o := 32) (by decide) fullShare, bigSep_univ_equiv numbering, bigSep_univ_prod]
  refine bigSep_congr fun c _ => bigSep_congr fun s _ => ?_
  rw [numbering_eq]; rfl

theorem tabs_eq (i : grid0.Coords) (q : PosShare TreeShare) :
    (tabs d i T₁ T₂ q : sProp 𝕄) = iprop((cosLoc d ↦{q} T₁) ∗ (sinLoc d ↦{q} T₂)) := by
  have h₁ : (cosTab.view.set : Finset S8192x128.Idx) = Finset.univ := by
    refine Finset.eq_univ_iff_forall.mpr fun y => Finset.mem_map.mpr ⟨y, Finset.mem_univ _, ?_⟩
    refine funext fun a => Fin.ext ?_
    match a with
    | ⟨0, _⟩ => show 0 + 1 * (y 0).val = (y 0).val; omega
    | ⟨1, _⟩ => show 0 + 1 * (y 1).val = (y 1).val; omega
  have h₂ : (sinTab.view.set : Finset S8192x128.Idx) = Finset.univ := h₁
  unfold tabs
  rw [h₁, h₂]

theorem cosOut_split (g : S32768x128.Idx → Elt F .f32) : (cosOutLoc d ↦{fullShare} g : sProp 𝕄)
    = bigSep Finset.univ fun c : Fin 2 => bigSep Finset.univ fun s : Fin 16 => bigSep Finset.univ fun k : Fin 8 =>
      cosOutLoc d ↦[rowsSet ((c, s), k)]{fullShare} g := by
  rw [← rows_cover, pointsTo_biUnion Finset.univ (ℓ := cosOutLoc d) rowsSet rows_disjoint, bigSep_univ_prod, bigSep_univ_prod]

theorem sinOut_split (g : S32768x128.Idx → Elt F .f32) : (sinOutLoc d ↦{fullShare} g : sProp 𝕄)
    = bigSep Finset.univ fun c : Fin 2 => bigSep Finset.univ fun s : Fin 16 => bigSep Finset.univ fun k : Fin 8 =>
      sinOutLoc d ↦[rowsSet ((c, s), k)]{fullShare} g := by
  rw [← rows_cover, pointsTo_biUnion Finset.univ (ℓ := sinOutLoc d) rowsSet rows_disjoint, bigSep_univ_prod, bigSep_univ_prod]

/-- The call's arrays are what the tiles have. -/
theorem whole_split : iprop((posLoc d ↦{fullShare} P) ∗ ((cosLoc d ↦{fullShare} T₁) ∗ (sinLoc d ↦{fullShare} T₂))
      ∗ (cosOutLoc d ↦{fullShare} g₁) ∗ (sinOutLoc d ↦{fullShare} g₂))
    = (bigSep Finset.univ fun c : Fin 2 => bigSep Finset.univ fun s : Fin 16 => tileHas d T₁ T₂ P g₁ g₂ (tileAt c s) : sProp 𝕄) := by
  rw [pos_split, shares_split (cosLoc d), shares_split (sinLoc d), cosOut_split, sinOut_split]
  simp only [tileHas, tabs_eq, rowsAt, bigSep_sep']
  rfl

end Pts

end Cert.Proof.Split

end
-- ==== Proof.Task.lean ====
/-
  A TILE'S TASK, as the launch asks for it: from the tile's part of the arrays and its own memory and semaphores, the
  kernel's body leaves the tile's part of the results looked up, the rest as it was, every semaphore at zero.
-/
module

public import proofs.«01_k».proof.Proof.Split

@[expose] public section

noncomputable section

namespace Cert.Proof.Task

open Cert.KernelIdeal Cert.KernelIdeal.Gen Cert.Proof.Body Cert.Proof.Values Cert.Proof.Turns Cert.Proof.Tile Cert.Proof.Split
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)

section Tile

variable (d : Dev nD) (i : grid0.Coords)

/-! ## The tile's own memory and semaphores -/

/-- The buffers the body uses: the list, the slots' cosine rows, the slots' sine rows. -/
def scratch : Fin 7 → Ref sig .scVector :=
  ![cc0_scratch0, cc0_scratch1, cc0_scratch2, cc0_scratch3, cc0_scratch4, cc0_scratch5, cc0_scratch6]

theorem scratch_injective : Function.Injective scratch := by
  intro a b; revert a b; decide

/-- The semaphores it uses: the slots' gathers', the slots' copies', the fetch's. -/
def cells : Fin 7 → DmaSem sig :=
  ![cc0_scratch7.sem, cc0_scratch8.sem, cc0_scratch9.sem, cc0_scratch10.sem, cc0_scratch11.sem, cc0_scratch12.sem, cc0_scoped0.sem]

theorem cells_injective : Function.Injective cells := by
  intro a b; revert a b; decide

theorem cells_scoped (k : Fin 7) : (SemLoc.dma (cells k) : SemLoc sig).isScoped .scVector = true := by
  revert k; decide

def scratchEmb : Fin 7 ↪ DevRef τ sig :=
  ⟨fun k => (Proc.scVector (cV i) (jV i)).devRef (scratch k), fun _ _ e => scratch_injective (Proc.devRef_injective _ e)⟩

def cellEmb : Fin 7 ↪ GSem nD τ sig :=
  ⟨fun k => (thr d i, .dma (cells k)), fun _ _ e => cells_injective (SemLoc.dma.inj (Prod.mk.inj e).2)⟩

/-- The tile's other buffers, and its other semaphores: not the body's concern. -/
def otherBufs : sProp 𝕄 :=
  bigSep (ownRefs (τ := τ) (.scVector (cV i) (jV i)) \ Finset.univ.map (scratchEmb i)) fun b => iprop(∃ f, ((d, b) : Loc nD τ sig) ↦{fullShare} f)
def otherCells : sProp 𝕄 := bigSep (ownCells (thr d i) \ Finset.univ.map (cellEmb d i)) fun g => semVal g 0

/-- The seven cells, at zero. -/
def cellsZero : sProp 𝕄 :=
  iprop(semVal (thr d i, .dma slot0.gat) 0 ∗ semVal (thr d i, .dma slot1.gat) 0 ∗ semVal (thr d i, .dma slot2.gat) 0
    ∗ semVal (thr d i, .dma slot0.out) 0 ∗ semVal (thr d i, .dma slot1.out) 0 ∗ semVal (thr d i, .dma slot2.out) 0 ∗ fetchCell d i)

theorem ownSems_split : (ownSems0 (thr d i) : sProp 𝕄) = iprop(cellsZero d i ∗ otherCells d i) := by
  have h : Finset.univ.map (cellEmb d i) ⊆ ownCells (thr d i) := by
    intro g hg
    obtain ⟨k, -, rfl⟩ := Finset.mem_map.mp hg
    exact mem_ownCells.mpr ⟨rfl, cells_scoped k⟩
  unfold SparseCore.Cfg.ownSems0 otherCells
  exact (SparseCore.bigSep_sdiff_split' h).trans (congrArg (fun A => iprop(A ∗ _)) ((bigSep_map (cellEmb d i)).trans (bigSep_seven _)))

/-- The seven buffers, whole, at some contents: the list's, and the slots'. -/
def bufsSome : sProp 𝕄 :=
  iprop((∃ f, listM.view.loc (thr d i) ↦[listM.view.set]{fullShare} f) ∗ bufs d i slot0 ∗ bufs d i slot1 ∗ bufs d i slot2)

theorem ownBufs_split : (ownBufs (thr d i) : sProp 𝕄) ⊣⊢ iprop(bufsSome d i ∗ otherBufs d i) := by
  have h : Finset.univ.map (scratchEmb i) ⊆ ownRefs (τ := τ) (.scVector (cV i) (jV i)) := by
    intro b hb
    obtain ⟨k, -, rfl⟩ := Finset.mem_map.mp hb
    refine SparseCore.Cfg.mem_ownRefs_of_owner ?_
    match k with
    | 0 | 1 | 2 | 3 | 4 | 5 | 6 => rfl
  have hl : (listM.view.set : Finset S8x128.Idx) = Finset.univ := View.set_whole _
  have hc0 : (slot0.cos.view.set : Finset S128x128.Idx) = Finset.univ := View.set_whole _
  have hc1 : (slot1.cos.view.set : Finset S128x128.Idx) = Finset.univ := View.set_whole _
  have hc2 : (slot2.cos.view.set : Finset S128x128.Idx) = Finset.univ := View.set_whole _
  have hs0 : (slot0.sin.view.set : Finset S128x128.Idx) = Finset.univ := View.set_whole _
  have hs1 : (slot1.sin.view.set : Finset S128x128.Idx) = Finset.univ := View.set_whole _
  have hs2 : (slot2.sin.view.set : Finset S128x128.Idx) = Finset.univ := View.set_whole _
  have e : (ownBufs (thr d i) : sProp 𝕄) = iprop(((∃ f, (thr d i).loc cc0_scratch0 ↦{fullShare} f) ∗ (∃ f, (thr d i).loc cc0_scratch1 ↦{fullShare} f)
      ∗ (∃ f, (thr d i).loc cc0_scratch2 ↦{fullShare} f) ∗ (∃ f, (thr d i).loc cc0_scratch3 ↦{fullShare} f) ∗ (∃ f, (thr d i).loc cc0_scratch4 ↦{fullShare} f)
      ∗ (∃ f, (thr d i).loc cc0_scratch5 ↦{fullShare} f) ∗ (∃ f, (thr d i).loc cc0_scratch6 ↦{fullShare} f)) ∗ otherBufs d i) := by
    unfold SparseCore.Cfg.ownBufs otherBufs
    exact (SparseCore.bigSep_sdiff_split' h).trans (congrArg (fun A => iprop(A ∗ _)) ((bigSep_map (scratchEmb i)).trans (bigSep_seven _)))
  rw [e]
  unfold bufsSome bufs
  rw [hl, hc0, hc1, hc2, hs0, hs1, hs2]
  constructor
  · iintro ⟨⟨B0, ⟨%f1, B1⟩, ⟨%f2, B2⟩, ⟨%f3, B3⟩, ⟨%f4, B4⟩, ⟨%f5, B5⟩, %f6, B6⟩, H⟩
    isplitr [H]
    · isplitl [B0]; · iexact B0
      isplitl [B1 B4]
      · iexists f1, f4
        isplitl [B1]; · iexact B1
        iexact B4
      isplitl [B2 B5]
      · iexists f2, f5
        isplitl [B2]; · iexact B2
        iexact B5
      iexists f3, f6
      isplitl [B3]; · iexact B3
      iexact B6
    iexact H
  · iintro ⟨⟨B0, ⟨%f1, %f4, B1, B4⟩, ⟨%f2, %f5, B2, B5⟩, %f3, %f6, B3, B6⟩, H⟩
    isplitr [H]
    · isplitl [B0]; · iexact B0
      isplitl [B1]; · iexists f1; iexact B1
      isplitl [B2]; · iexists f2; iexact B2
      isplitl [B3]; · iexists f3; iexact B3
      isplitl [B4]; · iexists f4; iexact B4
      isplitl [B5]; · iexists f5; iexact B5
      iexists f6; iexact B6
    iexact H

/-! ## The shares of the tables -/

variable (T₁ T₂ : S8192x128.Idx → Elt F .f32) (P : S32x8x128.Idx → BitVec 32)

theorem sep_cross (A B C D : sProp 𝕄) : iprop((A ∗ B) ∗ (C ∗ D)) ⊢ iprop((A ∗ C) ∗ (B ∗ D)) := by
  iintro ⟨⟨HA, HB⟩, HC, HD⟩
  isplitl [HA HC]; · isplitl [HA] <;> iassumption
  isplitl [HB] <;> iassumption

/-- A share of the tables is one for each slot. -/
theorem tabs_three (q : PosShare TreeShare) :
    (tabs d i T₁ T₂ q : sProp 𝕄) = iprop(tabs d i T₁ T₂ q.left ∗ tabs d i T₁ T₂ q.right.left ∗ tabs d i T₁ T₂ q.right.right) := by
  have two (q : PosShare TreeShare) : (tabs d i T₁ T₂ q : sProp 𝕄) = iprop(tabs d i T₁ T₂ q.left ∗ tabs d i T₁ T₂ q.right) := by
    unfold tabs
    have h {ℓ : Loc nD τ sig} (I : Finset (Idx ℓ)) (f : Buf (Elt F) ℓ) : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    rw [h, h]
    exact BI.Entails.antisymm (sep_cross _ _ _ _) (sep_cross _ _ _ _)
  rw [two q, two q.right]

/-! ## The task -/

variable [FloatOps F]

theorem task (hF : (K (F := F)).Facts) (hP : ∀ y, (P y).toNat < 8192) (g₁ g₂ : S32768x128.Idx → Elt F .f32)
    (O : CellTallies nD τ sig (HIx 1)) (W : Waits sig (HIx 1)) (hO : ∀ g, O g none = 0) :
    iprop(levAts (K (F := F)).L (K (F := F)).lev ∗ emp ∗ tileHas d T₁ T₂ P g₁ g₂ i
        ∗ scopedBufs (thr d i) ∗ scopedSems0 (thr d i) ∗ owes (thr d i) O W)
      ⊢ wp frame (wpE (defs₀ (F := F)) 𝒱₀ (thr d i) none) Set.univ
          (cc0__rope_gather i posM (Memref.isWhole_whole _) cosM (Memref.isWhole_whole _) sinM (Memref.isWhole_whole _)
            cosOut (Memref.isWhole_whole _) sinOut (Memref.isWhole_whole _) listM (Memref.isWhole_whole _)
            slot0.cos slot0.hcos slot1.cos slot1.hcos slot2.cos slot2.hcos slot0.sin slot0.hsin slot1.sin slot1.hsin slot2.sin slot2.hsin
            cc0_scratch7 cc0_scratch8 cc0_scratch9 cc0_scratch10 cc0_scratch11 cc0_scratch12 cc0_scoped0)
          fun _ => iprop(tileHas d T₁ T₂ P (looked T₁ P) (looked T₂ P) i
            ∗ scopedBufs (thr d i) ∗ scopedSems0 (thr d i) ∗ waits d i O W) := by
  rw [body_eq, (K (F := F)).scopedBufs_V hF d (cV i) (jV i), SparseCore.Cfg.scopedSems0_V (Val := Elt F) d (cV i) (jV i), ownSems_split]
  unfold tileHas
  iintro ⟨#Hlv, -, ⟨Hp, Ht, Hr⟩, HB, ⟨HS, Hcells⟩, HO⟩
  ihave #Hmw := (show levAts (K (F := F)).L (K (F := F)).lev ⊢ Transfers.MayWaits (thr d i) (default : HIx 1) O from
    (K (F := F)).mayWaits_none (thr := thr d i) hO) $$ Hlv
  ihave HB' := (ownBufs_split d i).1 $$ HB
  icases HB' with ⟨HB, Hbufs⟩
  ihave Ht' := (Entails.of_eq (tabs_three d i T₁ T₂ (shareOf i))) $$ Ht
  icases Ht' with ⟨T0, T1, T2⟩
  unfold bufsSome cellsZero
  icases HB with ⟨⟨%f, B0⟩, B1, B2, B3⟩
  icases HS with ⟨G0, G1, G2, O0, O1, O2, Hf⟩
  iapply (wp_wand_r frame (wpE (defs₀ (F := F)) 𝒱₀ (thr d i) none) Set.univ
    (Q := fun _ => iprop(part d i P ∗ (listM.view.loc (thr d i) ↦[listM.view.set]{fullShare} listed i P) ∗ fetchCell d i
        ∗ (idle d i T₁ T₂ slot0 (shareOf i).left ∗ idle d i T₁ T₂ slot1 (shareOf i).right.left ∗ idle d i T₁ T₂ slot2 (shareOf i).right.right)
        ∗ (bigSep Finset.univ fun k => rowsAt d i k (looked T₁ P) (looked T₂ P)) ∗ waits d i O W)))
  isplitl [Hp T0 T1 T2 B0 B1 B2 B3 G0 G1 G2 O0 O1 O2 Hf Hr HO]
  · iapply (wp_body d i T₁ T₂ P (W := W) (O := O) hP (shareOf i).left (shareOf i).right.left (shareOf i).right.right f g₁ g₂)
    unfold idle waits
    isplitr; · iexact Hmw
    isplitl [Hp]; · iexact Hp
    isplitl [B0]; · iexact B0
    isplitl [Hf]; · iexact Hf
    isplitl [T0 T1 T2 B1 B2 B3 G0 G1 G2 O0 O1 O2]
    · isplitl [T0 B1 G0 O0]
      · isplitl [T0]; · iexact T0
        isplitl [B1]; · iexact B1
        isplitl [G0] <;> iassumption
      isplitl [T1 B2 G1 O1]
      · isplitl [T1]; · iexact T1
        isplitl [B2]; · iexact B2
        isplitl [G1] <;> iassumption
      isplitl [T2]; · iexact T2
      isplitl [B3]; · iexact B3
      isplitl [G2] <;> iassumption
    isplitl [Hr]; · iexact Hr
    iexists W
    isplitr
    · ipureintro; exact fun p hp => .inl hp
    iexact HO
  unfold idle
  iintro %_ ⟨Hp, B0, Hf, ⟨⟨T0, B1, G0, O0⟩, ⟨T1, B2, G1, O1⟩, T2, B3, G2, O2⟩, Hr, HW⟩
  isplitl [Hp T0 T1 T2 Hr]
  · isplitl [Hp]; · iexact Hp
    isplitl [T0 T1 T2]
    · iapply (Entails.of_eq (tabs_three d i T₁ T₂ (shareOf i)).symm)
      isplitl [T0]; · iexact T0
      isplitl [T1] <;> iassumption
    iexact Hr
  isplitl [B0 B1 B2 B3 Hbufs]
  · iapply (ownBufs_split d i).2
    unfold bufsSome
    isplitr [Hbufs]
    · isplitl [B0]; · iexists _; iexact B0
      isplitl [B1]; · iexact B1
      isplitl [B2] <;> iassumption
    iexact Hbufs
  isplitl [G0 G1 G2 O0 O1 O2 Hf Hcells]
  · isplitr [Hcells]
    · isplitl [G0]; · iexact G0
      isplitl [G1]; · iexact G1
      isplitl [G2]; · iexact G2
      isplitl [O0]; · iexact O0
      isplitl [O1]; · iexact O1
      isplitl [O2] <;> iassumption
    iexact Hcells
  iexact HW

end Tile

end Cert.Proof.Task

end
-- ==== Proof.Run.lean ====
/-
  THE CALL AND THE RUN. The host lays the positions out as 32 parts, the call hands each tile its part, and the host lays
  the 32768 looked-up rows of each result out in four batches. So every fair execution ends with the arguments as they
  were, each result holding, at every position, the table's row of that position, and every semaphore at zero — at any
  float formats.
-/
module

public import proofs.«01_k».proof.Proof.Task

@[expose] public section

noncomputable section

namespace Cert.Proof.Run

open Cert.KernelIdeal Cert.KernelIdeal.Gen Cert.Proof.Body Cert.Proof.Values Cert.Proof.Turns Cert.Proof.Tile Cert.Proof.Split Cert.Proof.Task
open Idealize.ShloMosaic
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays' contents -/

variable (m : (ℓ : Loc nD τ sig) → Buf (Elt F) ℓ) (ρ : Dev nD → PrngReg)

abbrev argLoc (d : Dev nD) : Loc nD τ sig := (SparseCore.T d).loc main_arg0
abbrev out1Loc (d : Dev nD) : Loc nD τ sig := (SparseCore.T d).loc main_v2
abbrev out2Loc (d : Dev nD) : Loc nD τ sig := (SparseCore.T d).loc main_v3

/-- The positions, the tables, and what the results' arrays hold before the call. -/
abbrev Pos (d : Dev nD) : S32x8x128.Idx → BitVec 32 :=
  shapeCast S32x8x128 (m (argLoc d) : S4x8192.Idx → BitVec 32) shapeCasts_S4x8192_S32x8x128
abbrev Cos (d : Dev nD) : S8192x128.Idx → Elt F .f32 := m (cosLoc d)
abbrev Sin (d : Dev nD) : S8192x128.Idx → Elt F .f32 := m (sinLoc d)
abbrev Old₁ (d : Dev nD) : S32768x128.Idx → Elt F .f32 := m (cosOutLoc d)
abbrev Old₂ (d : Dev nD) : S32768x128.Idx → Elt F .f32 := m (sinOutLoc d)

/-- A looked-up result as the host lays it out. -/
abbrev result (T : S8192x128.Idx → Elt F .f32) (P : S32x8x128.Idx → BitVec 32) : S4x8192x128.Idx → Elt F .f32 :=
  shapeCast S4x8192x128 (looked T P) shapeCasts_S32768x128_S4x8192x128

/-- What is asked of the launch memory: every position is below 8192. -/
def PreOK : Prop := ∀ (d : Dev nD) (j : S4x8192.Idx), ((m (argLoc d) : S4x8192.Idx → BitVec 32) j).toNat < 8192

theorem pos_lt (hpre : PreOK m) (d : Dev nD) (y : S32x8x128.Idx) : (Pos m d y).toNat < 8192 := hpre d _

/-! ## What the handshakes carry: to each tile its part, back with the results looked up -/

def P : (K (F := F)).Pay (nD := nD) (Val := Elt F) (Name := ℕ) (U := UU) where
  st := fun q d c => match q with
    | 0 => bigSep Finset.univ fun s : Fin 16 => tileHas d (Cos m d) (Sin m d) (Pos m d) (Old₁ m d) (Old₂ m d) (tileAt c s)
  dn := fun q d c => match q with
    | 0 => bigSep Finset.univ fun s : Fin 16 =>
      tileHas d (Cos m d) (Sin m d) (Pos m d) (looked (Cos m d) (Pos m d)) (looked (Sin m d) (Pos m d)) (tileAt c s)
  go := fun q d c s => match q with
    | 0 => tileHas d (Cos m d) (Sin m d) (Pos m d) (Old₁ m d) (Old₂ m d) (tileAt c s)
  td := fun q d c s => match q with
    | 0 => tileHas d (Cos m d) (Sin m d) (Pos m d) (looked (Cos m d) (Pos m d)) (looked (Sin m d) (Pos m d)) (tileAt c s)
  x := fun _ _ => iprop(emp)

instance P_storable : (P (F := F) m).IsStorable where
  st q d c := match q with
    | 0 => (inferInstance : BI.Storable (upEmb : UEmb _ 𝕄) (bigSep Finset.univ fun s : Fin 16 =>
        tileHas d (Cos m d) (Sin m d) (Pos m d) (Old₁ m d) (Old₂ m d) (tileAt c s)))
  dn q d c := match q with
    | 0 => (inferInstance : BI.Storable (upEmb : UEmb _ 𝕄) (bigSep Finset.univ fun s : Fin 16 =>
        tileHas d (Cos m d) (Sin m d) (Pos m d) (looked (Cos m d) (Pos m d)) (looked (Sin m d) (Pos m d)) (tileAt c s)))
  go q d c s := match q with
    | 0 => tileHas_storable d (Cos m d) (Sin m d) (Pos m d) (Old₁ m d) (Old₂ m d) (tileAt c s)
  td q d c s := match q with
    | 0 => tileHas_storable d (Cos m d) (Sin m d) (Pos m d) (looked (Cos m d) (Pos m d)) (looked (Sin m d) (Pos m d)) (tileAt c s)

theorem vecSplit : (K (F := F)).VecSplit' (P m) 0 := by
  intro d c
  show (bigSep Finset.univ fun s : Fin 16 => tileHas d (Cos m d) (Sin m d) (Pos m d) (Old₁ m d) (Old₂ m d) (tileAt c s)) ⊢ |={Set.univ}=> iprop(
      (bigSep Finset.univ fun s : Fin 16 => tileHas d (Cos m d) (Sin m d) (Pos m d) (Old₁ m d) (Old₂ m d) (tileAt c s))
      ∗ ((bigSep Finset.univ fun s : Fin 16 =>
          tileHas d (Cos m d) (Sin m d) (Pos m d) (looked (Cos m d) (Pos m d)) (looked (Sin m d) (Pos m d)) (tileAt c s))
        -∗ bigSep Finset.univ fun s : Fin 16 =>
          tileHas d (Cos m d) (Sin m d) (Pos m d) (looked (Cos m d) (Pos m d)) (looked (Sin m d) (Pos m d)) (tileAt c s)))
  iintro H; imodintro
  isplitl [H]; · iexact H
  iintro H; iexact H

/-! ## The obligation of the tiles -/

variable [FloatOps F]

theorem defs₀_vector (c : Fin τ.nSC) (s : Fin τ.nSub) :
    defs₀ (F := F) (.scVector c s) 0 ()
      = SparseCore.onTile hcore0 hsub0 (fun c s => cc0__rope_gather (tileAt c s) posM (Memref.isWhole_whole _) cosM (Memref.isWhole_whole _) sinM (Memref.isWhole_whole _)
            cosOut (Memref.isWhole_whole _) sinOut (Memref.isWhole_whole _) listM (Memref.isWhole_whole _)
            slot0.cos slot0.hcos slot1.cos slot1.hcos slot2.cos slot2.hcos slot0.sin slot0.hsin slot1.sin slot1.hsin slot2.sin slot2.hsin
            cc0_scratch7 cc0_scratch8 cc0_scratch9 cc0_scratch10 cc0_scratch11 cc0_scratch12 cc0_scoped0) ⟨⟩ c s := rfl

omit [FloatOps F] in
theorem obl_post {d : Dev nD} {i : grid0.Coords} {A B C : sProp 𝕄} {O : CellTallies nD τ sig (HIx 1)} {W : Waits sig (HIx 1)} {q : Fin 1} :
    iprop(A ∗ B ∗ C ∗ waits d i O W)
      ⊢ iprop(A ∗ B ∗ C ∗ ∃ W', ⌜∀ p ∈ W', p ∈ W ∨ p.2 = none ∨ p.2 = some q⌝ ∗ owes (thr d i) O W') := by
  unfold waits
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (tileAt ⟨_, hci.1⟩ ⟨_, hci.2⟩) (Cos m d) (Sin m d) (Pos m d) hF (pos_lt m hpre d) (Old₁ m d) (Old₂ m d) O W hO).trans
    (wp_mono frame _ _ fun _ => obl_post)

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main on the TensorCore -/

omit [FloatOps F] in
include m in
/-- A host reshape: the result's array takes the operand's elements in their order. -/
theorem wp_reshape {Λ : Labels} (defs : Defs nD τ sig (Elt F) Λ) (𝒱 : Variants) (d : Dev nD) (x y : Ref sig .tc) (hxy : x ≠ y)
    (he : x.ty.elt = y.ty.elt) (hn) (hx) (hy) (f : x.ty.Contents (Elt F)) (g : y.ty.Contents (Elt F)) {Q : PUnit.{1} → sProp (MT nD τ sig (HIx 1) (Elt F) ℕ UU ℕ)} :
    iprop(boundary (SparseCore.T d) ∗ ((SparseCore.T d).loc x ↦{fullShare} f) ∗ (SparseCore.T d).loc y ↦{fullShare} g)
      ⊢ iprop((iprop(boundary (SparseCore.T d) ∗ ((SparseCore.T d).loc x ↦{fullShare} f)
            ∗ (SparseCore.T d).loc y ↦{fullShare} (fun i => he ▸ shapeCast y.ty.shape f hn i)) -∗ Q ⟨⟩)
        -∗ wp frame (wpE defs 𝒱 (SparseCore.T d) none) Set.univ
            (hlo rfl (StableHlo.reshape (τ := τ) (Val := Elt F) x y he hn hx hy) (fun _ => .ret ⟨⟩)) Q) := by
  have ne : (Proc.devRef .tc x : DevRef τ sig) ≠ Proc.devRef .tc y := fun e => hxy (Proc.devRef_injective _ e)
  let V : Valuation τ sig (Elt F) := Function.update (Function.update (fun b => m (d, b)) (Proc.devRef .tc x) f) (Proc.devRef .tc y) g
  have hVx : V (Proc.devRef .tc x) = f := (Function.update_of_ne ne _ _).trans (Function.update_self _ _ _)
  have hVy : V (Proc.devRef .tc y) = g := Function.update_self _ _ _
  have hheld (W : Valuation τ sig (Elt F)) : (held (SparseCore.T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := by
    unfold held
    rw [SparseCore.bigSep_insert' (by rw [Finset.mem_singleton]; exact ne), bigSep_singleton]
  iintro ⟨Hb, Hx, Hy⟩ Hk
  iapply (wp_hlo_within 𝒱 (SparseCore.T d) none Set.univ (op := StableHlo.reshape (τ := τ) (Val := Elt F) x y he hn hx hy)
    (S := {Proc.devRef .tc x, Proc.devRef .tc y}) (by rw [StableHlo.reshape_bufs]) (V := V)) $$ [Hb Hx Hy]
  · isplitl [Hb]; · iexact Hb
    rw [hheld, hVx, hVy]
    isplitl [Hx] <;> iassumption
  rw [hheld, StableHlo.reshape_result, StableHlo.reshape_result_ne x y he hn hx hy V hxy, hVx]
  iintro ⟨Hb, Hx, Hy⟩
  rw [wp_ret]; imodintro
  iapply Hk
  isplitl [Hb]; · iexact Hb
  isplitl [Hx] <;> iassumption

omit [FloatOps F] in
theorem unscopedBufs_eq (d : Dev nD) (W : (b : Ref sig .tc) → Buf (Elt F) ((d.tc : Thread nD τ).loc b)) :
    (unscopedBufs d W : sProp 𝕄) = iprop((argLoc d ↦{fullShare} W main_arg0) ∗ (cosLoc d ↦{fullShare} W main_arg1) ∗ (sinLoc d ↦{fullShare} W main_arg2)
      ∗ (posLoc d ↦{fullShare} W main_v0) ∗ (cosOutLoc d ↦{fullShare} W main_v1_0) ∗ (sinOutLoc d ↦{fullShare} W main_v1_1)
      ∗ (out1Loc d ↦{fullShare} W main_v2) ∗ out2Loc d ↦{fullShare} W main_v3) := by
  unfold unscopedBufs
  rw [show (Finset.univ.filter fun b : Ref sig .tc => ¬ b.isScoped)
    = {main_arg0, main_arg1, main_arg2, main_v0, main_v1_0, main_v1_1, main_v2, main_v3} by decide]
  iterate 7 rw [SparseCore.bigSep_insert' (by decide)]
  rw [bigSep_singleton]

omit [FloatOps F] in
/-- What the call takes is its arrays whole, and so is what it hands back. -/
theorem st0_eq (d : Dev nD) : (bigSep Finset.univ fun c : Fin ((K (F := F)).nCore 0) => (P m).st 0 d c)
    = iprop((posLoc d ↦{fullShare} Pos m d) ∗ ((cosLoc d ↦{fullShare} Cos m d) ∗ (sinLoc d ↦{fullShare} Sin m d))
      ∗ (cosOutLoc d ↦{fullShare} Old₁ m d) ∗ (sinOutLoc d ↦{fullShare} Old₂ m d)) :=
  (whole_split d (Cos m d) (Sin m d) (Pos m d) (Old₁ m d) (Old₂ m d)).symm
omit [FloatOps F] in
theorem dn0_eq (d : Dev nD) : (bigSep Finset.univ fun c : Fin ((K (F := F)).nCore 0) => (P m).dn 0 d c)
    = iprop((posLoc d ↦{fullShare} Pos m d) ∗ ((cosLoc d ↦{fullShare} Cos m d) ∗ (sinLoc d ↦{fullShare} Sin m d))
      ∗ (cosOutLoc d ↦{fullShare} looked (Cos m d) (Pos m d)) ∗ (sinOutLoc d ↦{fullShare} looked (Sin m d) (Pos m d))) :=
  (whole_split d (Cos m d) (Sin m d) (Pos m d) (looked (Cos m d) (Pos m d)) (looked (Sin m d) (Pos m d))).symm

/-- What @main leaves: the arguments as they were, the results. -/
def FIN (d : Dev nD) : sProp 𝕄 :=
  iprop((argLoc d ↦{fullShare} m (argLoc d)) ∗ (cosLoc d ↦{fullShare} Cos m d) ∗ (sinLoc d ↦{fullShare} Sin m d)
    ∗ (out1Loc d ↦{fullShare} result (Cos m d) (Pos m d)) ∗ out2Loc d ↦{fullShare} result (Sin m d) (Pos m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [unscopedBufs_eq]
  simp only [main, wp_bind, wp_pure]
  iintro ⟨#Hctx, Hst, ⟨Hb, ⟨Ha, Hc, Hs, Hp, H1, H2, H3, H4⟩, Hts, -⟩, -⟩
  iapply (wp_reshape m ((K (F := F)).defs (D (F := F))) 𝒱 d main_arg0 main_v0 (by decide) rfl shapeCasts_S4x8192_S32x8x128 _ _
    (m (argLoc d)) (m (posLoc d))) $$ [Hb Ha Hp]
  · isplitl [Hb]; · iexact Hb
    isplitl [Ha] <;> iassumption
  iintro ⟨Hb, Ha, Hp⟩
  iapply ((K (F := F)).wp_run (D (F := F)) 𝒱 (EH := EH) (P := P m) κ d 0) $$ [Hst Ha Hc Hs Hp H1 H2 H3 H4 Hb Hts]
  isplitr; · iexact Hctx
  isplitl [Hst]; · iexact Hst
  isplitl [Hc Hs Hp H1 H2]
  · rw [st0_eq]
    isplitl [Hp]; · iexact Hp
    isplitl [Hc Hs]; · isplitl [Hc] <;> iassumption
    isplitl [H1] <;> iassumption
  iintro ⟨Hst, Hdn⟩
  ihave Hdn' := (Entails.of_eq (dn0_eq m d)) $$ Hdn
  icases Hdn' with ⟨Hp, ⟨Hc, Hs⟩, H1, H2⟩
  iapply (wp_reshape m ((K (F := F)).defs (D (F := F))) 𝒱 d main_v1_0 main_v2 (by decide) rfl shapeCasts_S32768x128_S4x8192x128 _ _
    (looked (Cos m d) (Pos m d)) (m (out1Loc d))) $$ [Hb H1 H3]
  · isplitl [Hb]; · iexact Hb
    isplitl [H1] <;> iassumption
  iintro ⟨Hb, H1, H3⟩
  iapply (wp_reshape m ((K (F := F)).defs (D (F := F))) 𝒱 d main_v1_1 main_v3 (by decide) rfl shapeCasts_S32768x128_S4x8192x128 _ _
    (looked (Sin m d) (Pos m d)) (m (out2Loc d))) $$ [Hb H2 H4]
  · isplitl [Hb]; · iexact Hb
    isplitl [H2] <;> iassumption
  iintro ⟨Hb, H2, H4⟩
  imodintro
  isplitl [Hst]; · iexact Hst
  isplitr [Hb Hts]
  · isplitl [Ha]; · iexact Ha
    isplitl [Hc]; · iexact Hc
    isplitl [Hs]; · iexact Hs
    isplitl [H3]; · iexact H3
    iexact H4
  isplitl [Hb] <;> iassumption

/-! ## The run -/

def fq (d : Dev nD) (s' : Phys nD τ sig (Elt F)) : Prop :=
  (s'.mem.mem (argLoc d) = m (argLoc d) ∧ s'.mem.mem (cosLoc d) = m (cosLoc d) ∧ s'.mem.mem (sinLoc d) = m (sinLoc d))
    ∧ s'.mem.mem (out1Loc d) = result (Cos m d) (Pos m d) ∧ s'.mem.mem (out2Loc d) = result (Sin m d) (Pos m d)

omit [FloatOps F] in
/-- An array owned whole reads as its contents. -/
theorem reads {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

omit [FloatOps F] in
theorem hfin (d : Dev nD) (s' : Phys nD τ sig (Elt F)) : iprop(FIN m d ∗ SI s') ⊢ (⌜fq m d s'⌝ : sProp 𝕄) := by
  unfold FIN
  iintro ⟨⟨Ha, Hc, Hs, H3, H4⟩, HSI⟩
  ihave H := (reads (m (argLoc d)) s') $$ [HSI Ha]
  · isplitl [HSI] <;> iassumption
  icases H with ⟨%ha, HSI⟩
  ihave H := (reads (ℓ := cosLoc d) (Cos m d) s') $$ [HSI Hc]
  · isplitl [HSI] <;> iassumption
  icases H with ⟨%hc, HSI⟩
  ihave H := (reads (ℓ := sinLoc d) (Sin m d) s') $$ [HSI Hs]
  · isplitl [HSI] <;> iassumption
  icases H with ⟨%hs, HSI⟩
  ihave H := (reads (ℓ := out1Loc d) (result (Cos m d) (Pos m d)) s') $$ [HSI H3]
  · isplitl [HSI] <;> iassumption
  icases H with ⟨%h3, HSI⟩
  ihave H := (reads (ℓ := out2Loc d) (result (Sin m d) (Pos m d)) s') $$ [HSI H4]
  · isplitl [HSI] <;> iassumption
  icases H with ⟨%h4, HSI⟩
  ipureintro; exact ⟨⟨ha, hc, hs⟩, h3, h4⟩

def QC : PUnit × MemSt nD τ sig (Elt F) → Prop := fun r =>
  (∀ d : Dev nD, (r.2.mem (argLoc d) = m (argLoc d) ∧ r.2.mem (cosLoc d) = m (cosLoc d) ∧ r.2.mem (sinLoc d) = m (sinLoc d))
    ∧ r.2.mem (out1Loc d) = result (Cos m d) (Pos m d) ∧ r.2.mem (out2Loc d) = result (Sin m d) (Pos m d)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Lookup.lean ====
/-
  THE REFERENCE'S LOOKUP. `jnp.take` wraps a negative position by the table's height, gathers the row the wrapped position
  names, and puts NaN where it names none. At positions below 8192 nothing wraps and every row is there, so the term is
  the table's row of the position; and that is what the kernel's result holds, laid out in its four batches.
-/
module

public import proofs.«01_k».proof.Proof.Run
public import proofs.«01_k».proof.Proof.Gen.ReferenceIdeal.Run
public import Idealize.ShloMosaic.Lib.ReduceAll
public import Idealize.ShloMosaic.Lib.ValueIdxCore

@[expose] public section

noncomputable section

namespace Cert.Proof.Lookup

open Cert.ReferenceIdeal Cert.ReferenceIdeal.Gen
open Idealize.ShloMosaic

variable {F : FTy → Type} [FloatOps F]

/-! ## The words: a position below 8192, signed, is itself -/

theorem toInt_small {w : BitVec 32} (h : w.toNat < 8192) : w.toInt = w.toNat := by
  rw [BitVec.toInt_eq_toNat_cond, if_pos (by omega)]

theorem not_neg {w : BitVec 32} (h : w.toNat < 8192) : IntOp.cmpi .slt w 0#32 = 0#1 := by
  have e := toInt_small h
  show BitVec.ofBool (decide (w.toInt < (0#32 : BitVec 32).toInt)) = 0#1
  rw [decide_eq_false (by rw [e]; simp)]; rfl

theorem ge_zero {w : BitVec 32} (h : w.toNat < 8192) : IntOp.cmpi .sge w 0#32 = 1#1 := by
  have e := toInt_small h
  show BitVec.ofBool (decide ((0#32 : BitVec 32).toInt ≤ w.toInt)) = 1#1
  rw [decide_eq_true (by rw [e]; simp)]; rfl

theorem le_last {w : BitVec 32} (h : w.toNat < 8192) : IntOp.cmpi .sle w 8191#32 = 1#1 := by
  have e := toInt_small h
  show BitVec.ofBool (decide (w.toInt ≤ (8191#32 : BitVec 32).toInt)) = 1#1
  rw [decide_eq_true (by rw [e, show (8191#32 : BitVec 32).toInt = 8191 by decide]; omega)]; rfl

/-! ## The term -/

/-- The positions, negative ones wrapped. -/
abbrev wrapped (A : IVec S4x8192 32) : IVec S4x8192 32 :=
  select (cmpi .slt A (broadcastInDim S4x8192 ![] bcast_S_S4x8192 (constantI S_ 32 0#32)))
    (addi A (broadcastInDim S4x8192 ![] bcast_S_S4x8192 (constantI S_ 32 8192#32))) A

/-- Them as the gather's indices. -/
abbrev indices (A : IVec S4x8192 32) : IVec S4x8192x1 32 := broadcastInDim S4x8192x1 ![0, 1] bcast_S4x8192_S4x8192x1_0_1 (wrapped A)

/-- Where they name a row. -/
abbrev named (A : IVec S4x8192 32) : IVec S4x8192 1 :=
  Host.reduce IntOp.andi (andi (cmpi .sge (indices A) (broadcastInDim S4x8192x1 ![] bcast_S_S4x8192x1 (constantI S_ 32 0#32)))
      (cmpi .sle (indices A) (broadcastInDim S4x8192x1 ![0, 1, 2] bcast_S1x1x1_S4x8192x1_0_1_2 (broadcastInDim S1x1x1 ![2] bcast_S1_S1x1x1_2 (constantI S1 32 8191#32)))))
    (constantI S_ 1 1#1) reducesTo_S4x8192x1_S4x8192_d2 h_S_

/-- The reference's result from a table. -/
abbrev taken (A : IVec S4x8192 32) (T : FVec F S8192x128 .f32) : FVec F S4x8192x128 .f32 :=
  select (broadcastInDim S4x8192x128 ![0, 1] bcast_S4x8192_S4x8192x128_0_1 (named A))
    (Host.gather gather_S8192x128_S4x8192x1_S4x8192x128_2_0_n_n_0_2_1128 T (indices A))
    (broadcastInDim S4x8192x128 ![] bcast_S_S4x8192x128 (constant S_ .f32 0x7FC00000#32))

theorem wrapped_eq {A : IVec S4x8192 32} (hA : ∀ j, (A j).toNat < 8192) : wrapped A = A := by
  funext j
  show Scalar.select (IntOp.cmpi .slt (A j) 0#32) _ (A j) = A j
  rw [not_neg (hA j)]; rfl

theorem named_eq {A : IVec S4x8192 32} (hA : ∀ j, (A j).toNat < 8192) (j : S4x8192.Idx) : named A j = 1#1 := by
  unfold named indices
  rw [wrapped_eq hA]
  refine Host.reduce_andi_one _ _ _ _ j rfl fun i => ?_
  refine IntOp.andi_eq_one.2 ⟨ge_zero (hA _), le_last (hA _)⟩

/-- The gather's axes. -/
abbrev rows := gather_S8192x128_S4x8192x1_S4x8192x128_2_0_n_n_0_2_1128

/-- Where the position of a result's entry stands, and the same among the gather's indices. -/
def here (y : S4x8192x128.Idx) : S4x8192.Idx
  | ⟨0, _⟩ => y 0
  | ⟨1, _⟩ => y 1

def hereIdx (y : S4x8192x128.Idx) : S4x8192x1.Idx
  | ⟨0, _⟩ => y 0
  | ⟨1, _⟩ => y 1
  | ⟨2, _⟩ => (0 : Fin 1)

theorem indices_apply {A : IVec S4x8192 32} (hA : ∀ j, (A j).toNat < 8192) (y : S4x8192x128.Idx) :
    indices A (hereIdx y) = A (here y) := by
  unfold indices
  rw [wrapped_eq hA]
  show A _ = A _
  congr 1
  funext a
  match a with
  | ⟨0, _⟩ => rfl
  | ⟨1, _⟩ => rfl

/-- Along the rows the gather starts at the position. -/
theorem start_row {A : IVec S4x8192 32} (hA : ∀ j, (A j).toNat < 8192) (y : S4x8192x128.Idx) :
    rows.start y (indices A) 0 = (A (here y)).toNat := by
  unfold GatherDims.start
  rw [dif_pos (show (0 : Fin 2) ∈ rows.startIndexMap from List.mem_singleton.mpr rfl)]
  have hsi : rows.siIdx y ⟨List.idxOf (0 : Fin 2) rows.startIndexMap, List.idxOf_lt_length_iff.2 (List.mem_singleton.mpr rfl)⟩
      = hereIdx y := by
    funext b; refine Fin.ext ?_
    match b with
    | ⟨0, _⟩ => rfl
    | ⟨1, _⟩ => rfl
    | ⟨2, _⟩ => rfl
  rw [hsi, indices_apply hA, toInt_small (hA _)]
  have h := hA (here y)
  show min ((A (here y)).toNat : ℤ).toNat 8191 = _
  rw [Int.toNat_natCast]; omega

/-- The gather's entry: of the row the position names, at the result's own column. -/
theorem gather_row {A : IVec S4x8192 32} (hA : ∀ j, (A j).toNat < 8192) (T : FVec F S8192x128 .f32) (y : S4x8192x128.Idx) :
    Host.gather rows T (indices A) y = T (Values.entryAt (A (here y)) (y 2)) := by
  unfold Host.gather
  congr 1
  funext a
  refine Fin.ext ?_
  show rows.start y (indices A) a + rows.batchCoord y a + rows.offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    have h := hA (here y)
    refine (start_row hA y).trans ?_
    show _ = (A (here y)).toNat % 8192
    omega
  | ⟨1, _⟩ =>
    have h1 : rows.start y (indices A) (1 : Fin 2) = 0 := by
      unfold GatherDims.start
      rw [dif_neg (show ¬ (1 : Fin 2) ∈ rows.startIndexMap from fun h => absurd (List.mem_singleton.mp h) (by decide))]
    have h2 : rows.offCoord y (1 : Fin 2) = (y 2).val := by
      unfold GatherDims.offCoord
      rw [dif_pos ((GatherDims.mem_sKept _ _).mpr ⟨fun h => absurd (List.mem_singleton.mp h) (by decide), List.not_mem_nil⟩)]
      rfl
    show rows.start y (indices A) (1 : Fin 2) + 0 + rows.offCoord y (1 : Fin 2) = (y 2).val
    rw [h1, h2]; omega

/-! ## It is the kernel's result -/

/-- Where the entry stands among the looked-up rows. -/
def row (y : S4x8192x128.Idx) : Fin 32768 := ⟨(y 0).val * 8192 + (y 1).val, by
  have h0 : (y 0).val < 4 := (y 0).isLt
  have h1 : (y 1).val < 8192 := (y 1).isLt
  omega⟩

def rowIdx (y : S4x8192x128.Idx) : KernelIdeal.S32768x128.Idx
  | ⟨0, _⟩ => row y
  | ⟨1, _⟩ => y 2

theorem reshape_row (y : S4x8192x128.Idx) :
    Shape.reshapeEquiv KernelIdeal.Gen.shapeCasts_S32768x128_S4x8192x128 y = rowIdx y := by
  refine Shape.reshapeEquiv_eq_of_vals _ y (rowIdx y) _ _ (rowMajor_val2 (rowIdx y) 128 rfl) (rowMajor_val3 y 1048576 128 rfl rfl) ?_
  show ((y 0).val * 8192 + (y 1).val) * 128 + (y 2).val = (y 0).val * 1048576 + (y 1).val * 128 + (y 2).val
  omega

theorem reshape_place (y : S4x8192x128.Idx) :
    Shape.reshapeEquiv KernelIdeal.Gen.shapeCasts_S4x8192_S32x8x128 (Values.place (row y)) = here y := by
  refine Shape.reshapeEquiv_eq_of_vals _ (Values.place (row y)) (here y) _ _ (rowMajor_val2 (here y) 8192 rfl)
    (rowMajor_val3 (Values.place (row y)) 1024 128 rfl rfl) ?_
  show (y 0).val * 8192 + (y 1).val = (row y).val / 1024 * 1024 + (row y).val / 128 % 8 * 128 + (row y).val % 128
  have e : (row y).val = (y 0).val * 8192 + (y 1).val := rfl
  omega

/-- The reference's lookup is the kernel's, at positions below 8192. -/
theorem taken_eq {A : IVec S4x8192 32} (hA : ∀ j, (A j).toNat < 8192) (T : FVec F S8192x128 .f32) :
    taken A T = Run.result T (shapeCast KernelIdeal.S32x8x128 A KernelIdeal.Gen.shapeCasts_S4x8192_S32x8x128) := by
  funext y
  have hl : taken A T y = T (Values.entryAt (A (here y)) (y 2)) := by
    have hn : broadcastInDim S4x8192x128 ![0, 1] bcast_S4x8192_S4x8192x128_0_1 (named A) y = 1#1 := named_eq hA _
    unfold taken
    rw [ValueIdx.select_apply, hn, gather_row hA]; rfl
  refine hl.trans ?_
  show _ = T (Values.entryAt (A (Shape.reshapeEquiv KernelIdeal.Gen.shapeCasts_S4x8192_S32x8x128
    (Values.place ((Shape.reshapeEquiv KernelIdeal.Gen.shapeCasts_S32768x128_S4x8192x128 y : KernelIdeal.S32768x128.Idx) 0))))
    ((Shape.reshapeEquiv KernelIdeal.Gen.shapeCasts_S32768x128_S4x8192x128 y : KernelIdeal.S32768x128.Idx) 1))
  rw [reshape_row]
  show _ = T (Values.entryAt (A (Shape.reshapeEquiv KernelIdeal.Gen.shapeCasts_S4x8192_S32x8x128 (Values.place (row y)))) (y 2))
  rw [reshape_place]

end Cert.Proof.Lookup

end
-- ==== Proof.lean ====
/-
  THE CLAIMS. At positions from 0 to 8191, the kernel and its idealization run with nothing faulting and end with their
  arguments unchanged and every semaphore at zero; at exact values each of its two results is the reference's, element for
  element. The run is Proof/Run.lean's, at each kind of float; the reference's lookup is read in Proof/Lookup.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_rows
public import proofs.«01_k».proof.Proof.Run
public import proofs.«01_k».proof.Proof.Lookup
public import Idealize.ShloMosaic.Lib.Affine
public import Idealize.ShloMosaic.Lib.Quiescent
public import Idealize.ShloMosaic.Adequacy
public import Idealize.ShloMosaic.Init

@[expose] public section

noncomputable section

namespace Cert.Proof

open Idealize.ShloMosaic Idealize.SL.Sem

/-! ## The precondition, read -/

/-- A word that is at least 0 and less than 8192, signed, is below 8192 unsigned. -/
theorem below_of_word {w : BitVec 32} (h₀ : IntOp.cmpi .sge w 0#32 = 1#1) (h₁ : IntOp.cmpi .slt w 8192#32 = 1#1) : w.toNat < 8192 := by
  have a : (0#32 : BitVec 32).toInt ≤ w.toInt := IntOp.cmpi_sge.1 h₀
  have b : w.toInt < (8192#32 : BitVec 32).toInt := IntOp.cmpi_slt.1 h₁
  rw [show (0#32 : BitVec 32).toInt = 0 by decide] at a
  rw [show (8192#32 : BitVec 32).toInt = 8192 by decide] at b
  rw [BitVec.toInt_eq_toNat_cond] at a b
  have := w.isLt
  split at a <;> omega

instance : Subsingleton Cert.Pre_in_rows.S_.Idx := ⟨fun a b => funext fun i => i.elim0⟩

/-- Of positions of which the precondition holds, each is below 8192. -/
theorem below {F : FTy → Type} [FloatOps F] {A : IVec Cert.Pre_in_rows.S4x8192 32} {T T' : FVec F Cert.Pre_in_rows.S8192x128 .f32}
    (h : Cert.Pre_in_rows.fn A T T' = fun _ => 1#1) (j : Cert.Pre_in_rows.S4x8192.Idx) : (A j).toNat < 8192 := by
  dsimp only [Cert.Pre_in_rows.fn] at h
  have e := Host.reduce_andi_all _ _ _ _ _ (congrFun h (fun i => i.elim0)) j
  exact below_of_word (IntOp.andi_eq_one.1 e).1 (IntOp.andi_eq_one.1 e).2

/-! ## The frames -/

theorem frame_kernel : Cert.quiescent_Kernel := fun m ρ hpre =>
  (θ_run Cert.KernelIdeal.defs _ _).mono (fun _ h => ⟨fun c => (h.1 c).1, h.2⟩) (Run.run_main (F := Bits) m ρ fun d j => below (hpre d) j)

theorem frame_ideal : Cert.quiescent_KernelIdeal := fun m ρ hpre =>
  (θ_run Cert.KernelIdeal.defs _ _).mono (fun _ h => ⟨fun c => (h.1 c).1, h.2⟩) (Run.run_main (F := Ideal) m ρ fun d j => below (hpre d) j)

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-! ## The results -/

/-- Both programs' results are the tables' rows of the kernel's positions. -/
theorem results : Cert.algebraic_KernelIdeal_ReferenceIdeal := by
  intro m ρ m' ρ' hpre hargs
  have hlt : Run.PreOK m := fun d j => below (hpre d) j
  refine ⟨fun d => Run.result (Run.Cos m d) (Run.Pos m d), fun d => Run.result (Run.Sin m d) (Run.Pos m d),
    (θ_run Cert.KernelIdeal.defs _ _).mono (fun _ h c => ⟨(h.1 c).2.1, (h.1 c).2.2, (h.1 c).1⟩) (Run.run_main (F := Ideal) m ρ hlt),
    (θ_run Cert.ReferenceIdeal.defs _ _).mono (fun _ h c => ⟨(h c).1.trans ?_, (h c).2.1.trans ?_, (h c).2.2⟩)
      (Cert.ReferenceIdeal.Value.run (F := Ideal) m' ρ')⟩
  · rw [(hargs c).1, (hargs c).2.1]
    exact Lookup.taken_eq (A := m (Run.argLoc c)) (hlt c) (Run.Cos m c)
  · rw [(hargs c).1, (hargs c).2.2]
    exact Lookup.taken_eq (A := m (Run.argLoc c)) (hlt c) (Run.Sin m c)

theorem claim : Cert.Claim :=
  ⟨Cert.Kernel.Gen.facts, Cert.KernelIdeal.Gen.facts, Cert.ReferenceIdeal.Gen.facts, Cert.Pre_in_rows.Gen.facts,
    frame_kernel, frame_ideal, frame_reference, fun m ρ _ => frame_reference m ρ trivial, trivial, results⟩

end Cert.Proof

end
